-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_in_vocab [hPre_finite_in_vocab : Cert.Pre_finite_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_vocab [hPre_finite_in_vocab : Cert.Pre_finite_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_in_vocab [hKernelIdeal : Cert.KernelIdeal.Facts] [hPre_finite_in_vocab : Cert.Pre_finite_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_vocab m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_in_vocab [hReferenceIdeal : Cert.ReferenceIdeal.Facts] [hPre_finite_in_vocab : Cert.Pre_finite_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "eps" .f32 0x3651BA72#32 ((1 / 319980 : ℝ) : EReal)
  ∧ IdealRules.named_const.Statement Cert.KernelIdeal.κ "entropy" .f32 0xBFAE63F8#32 (((1 / 10) * (Real.log (129140163 / 106660000000000)) : ℝ) : EReal)
  ∧ IdealRules.named_const.Statement Cert.KernelIdeal.κ "conf_less_eps" .f32 0x3F666632#32 ((287981 / 319980 : ℝ) : EReal)
  ∧ IdealRules.named_const.Statement Cert.KernelIdeal.κ "neg_eps" .f32 0xB651BA72#32 ((-1 / 319980 : ℝ) : EReal)

def algebraic_KernelIdeal_ReferenceIdeal_pre_finite_in_vocab [hKernelIdeal : Cert.KernelIdeal.Facts] [hReferenceIdeal : Cert.ReferenceIdeal.Facts] [hPre_finite_in_vocab : Cert.Pre_finite_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocab : Cert.Pre_in_vocab.Facts) (hPre_finite_in_vocab : Cert.Pre_finite_in_vocab.Facts),
    quiescent_Kernel (hKernel := hKernel) (hPre_in_vocab := hPre_in_vocab)
    ∧ quiescent_KernelIdeal (hKernelIdeal := hKernelIdeal) (hPre_in_vocab := hPre_in_vocab)
    ∧ quiescent_KernelIdeal_pre_finite_in_vocab (hKernelIdeal := hKernelIdeal) (hPre_finite_in_vocab := hPre_finite_in_vocab)
    ∧ quiescent_ReferenceIdeal (hReferenceIdeal := hReferenceIdeal)
    ∧ quiescent_ReferenceIdeal_pre_finite_in_vocab (hReferenceIdeal := hReferenceIdeal) (hPre_finite_in_vocab := hPre_finite_in_vocab)
    ∧ preserves_Kernel_KernelIdeal
    ∧ algebraic_KernelIdeal_ReferenceIdeal_pre_finite_in_vocab (hKernelIdeal := hKernelIdeal) (hReferenceIdeal := hReferenceIdeal) (hPre_finite_in_vocab := hPre_finite_in_vocab)
-- ==== Pre_finite_in_vocab.lean ====
abbrev S8x256x32000 : Shape := ⟨3, ![8, 256, 32000]⟩
abbrev S8x256 : Shape := ⟨2, ![8, 256]⟩
abbrev S_ : Shape := ⟨0, ![]⟩

class Facts : Prop where
  bcast_S_S8x256 : S_.BroadcastsInDim S8x256 (![] : Fin 0 → Fin S8x256.rank)
  reducesTo_S8x256_S_d0_1 : S8x256.ReducesTo [0, 1] S_
  h_S_ : 0 < S_.numel
  bcast_S_S8x256x32000 : S_.BroadcastsInDim S8x256x32000 (![] : Fin 0 → Fin S8x256x32000.rank)
  reducesTo_S8x256x32000_S_d0_1_2 : S8x256x32000.ReducesTo [0, 1, 2] S_

variable [Facts]

def fn {F : FTy → Type} [FloatOps F] (main_arg0 : FVec F S8x256x32000 .f32) (main_arg1 : IVec S8x256 32) : IVec S_ 1 :=
  let main_c : IVec S_ 32 := constantI S_ 32 0#32
  let main_v0 : IVec S8x256 32 := broadcastInDim S8x256 ![] bcast_S_S8x256 main_c
  let main_v1 : IVec S8x256 1 := cmpi .sge main_arg1 main_v0
  let main_c_0 : IVec S_ 32 := constantI S_ 32 32000#32
  let main_v2 : IVec S8x256 32 := broadcastInDim S8x256 ![] bcast_S_S8x256 main_c_0
  let main_v3 : IVec S8x256 1 := cmpi .slt main_arg1 main_v2
  let main_v4 : IVec S8x256 1 := andi main_v1 main_v3
  let main_c_1 : IVec S_ 1 := constantI S_ 1 1#1
  let main_v5 : IVec S_ 1 := (fun x v => Host.reduce IntOp.andi x v reducesTo_S8x256_S_d0_1 h_S_) main_v4 main_c_1
  let main_v6 : FVec F S8x256x32000 .f32 := Host.absf main_arg0
  let main_cst : FVec F S_ .f32 := constant S_ .f32 0x7F800000#32
  let main_v7 : FVec F S8x256x32000 .f32 := broadcastInDim S8x256x32000 ![] bcast_S_S8x256x32000 main_cst
  let main_v8 : IVec S8x256x32000 1 := cmpf .olt main_v6 main_v7
  let main_c_2 : IVec S_ 1 := constantI S_ 1 1#1
  let main_v9 : IVec S_ 1 := (fun x v => Host.reduce IntOp.andi x v reducesTo_S8x256x32000_S_d0_1_2 h_S_) main_v8 main_c_2
  let main_v10 : IVec S_ 1 := andi main_v5 main_v9
  main_v10
-- ==== Pre_in_vocab.lean ====
abbrev S8x256x32000 : Shape := ⟨3, ![8, 256, 32000]⟩
abbrev S8x256 : Shape := ⟨2, ![8, 256]⟩
abbrev S_ : Shape := ⟨0, ![]⟩

class Facts : Prop where
  bcast_S_S8x256 : S_.BroadcastsInDim S8x256 (![] : Fin 0 → Fin S8x256.rank)
  reducesTo_S8x256_S_d0_1 : S8x256.ReducesTo [0, 1] S_
  h_S_ : 0 < S_.numel

variable [Facts]

def fn {F : FTy → Type} [FloatOps F] (main_arg0 : FVec F S8x256x32000 .f32) (main_arg1 : IVec S8x256 32) : IVec S_ 1 :=
  let main_c : IVec S_ 32 := constantI S_ 32 0#32
  let main_v0 : IVec S8x256 32 := broadcastInDim S8x256 ![] bcast_S_S8x256 main_c
  let main_v1 : IVec S8x256 1 := cmpi .sge main_arg1 main_v0
  let main_c_0 : IVec S_ 32 := constantI S_ 32 32000#32
  let main_v2 : IVec S8x256 32 := broadcastInDim S8x256 ![] bcast_S_S8x256 main_c_0
  let main_v3 : IVec S8x256 1 := cmpi .slt main_arg1 main_v2
  let main_v4 : IVec S8x256 1 := andi main_v1 main_v3
  let main_c_1 : IVec S_ 1 := constantI S_ 1 1#1
  let main_v5 : IVec S_ 1 := (fun x v => Host.reduce IntOp.andi x v reducesTo_S8x256_S_d0_1 h_S_) main_v4 main_c_1
  main_v5
-- ==== Kernel.lean ====
abbrev S8x256x32000 : Shape := ⟨3, ![8, 256, 32000]⟩
abbrev S8x256 : Shape := ⟨2, ![8, 256]⟩
abbrev S2048 : Shape := ⟨1, ![2048]⟩
abbrev S65536000 : Shape := ⟨1, ![65536000]⟩
abbrev S32x128 : Shape := ⟨2, ![32, 128]⟩
abbrev S64 : Shape := ⟨1, ![64]⟩
abbrev S128 : Shape := ⟨1, ![128]⟩
abbrev S_ : Shape := ⟨0, ![]⟩
abbrev S16 : Shape := ⟨1, ![16]⟩
abbrev S1x128 : Shape := ⟨2, ![1, 128]⟩
abbrev S2048x32000 : Shape := ⟨2, ![2048, 32000]⟩
abbrev S16x1x128 : Shape := ⟨3, ![16, 1, 128]⟩
abbrev S1x1 : Shape := ⟨2, ![1, 1]⟩
abbrev S128x32000 : Shape := ⟨2, ![128, 32000]⟩
abbrev S1x1x128 : Shape := ⟨3, ![1, 1, 128]⟩
abbrev S1 : Shape := ⟨1, ![1]⟩
abbrev S1x32x128 : Shape := ⟨3, ![1, 32, 128]⟩
abbrev S1x1x1 : Shape := ⟨3, ![1, 1, 1]⟩

abbrev nBuf : Table → Nat
  | .hbm => 9
  | .local .tc .vmem => 5
  | .local .tc .smem => 1
  | .local .scVector .vmem => 6
  | _ => 0

abbrev bufTy : (tb : Table) → Fin (nBuf tb) → BufTy
  | .hbm, ⟨0, _⟩ => ⟨S8x256x32000, .f32⟩
  | .hbm, ⟨1, _⟩ => ⟨S8x256, .i32⟩
  | .hbm, ⟨2, _⟩ => ⟨S2048, .i32⟩
  | .hbm, ⟨3, _⟩ => ⟨S65536000, .f32⟩
  | .hbm, ⟨4, _⟩ => ⟨S32x128, .f32⟩
  | .hbm, ⟨5, _⟩ => ⟨S2048x32000, .f32⟩
  | .hbm, ⟨6, _⟩ => ⟨S16x1x128, .i32⟩
  | .hbm, ⟨7, _⟩ => ⟨S1x1, .f32⟩
  | .hbm, ⟨8, _⟩ => ⟨S_, .f32⟩
  | .local .tc .vmem, ⟨0, _⟩ => ⟨S128x32000, .f32⟩
  | .local .tc .vmem, ⟨1, _⟩ => ⟨S128x32000, .f32⟩
  | .local .tc .vmem, ⟨2, _⟩ => ⟨S1x1x128, .i32⟩
  | .local .tc .vmem, ⟨3, _⟩ => ⟨S1x1x128, .i32⟩
  | .local .tc .vmem, ⟨4, _⟩ => ⟨S32x128, .f32⟩
  | .local .tc .smem, ⟨0, _⟩ => ⟨S1x1, .f32⟩
  | .local .scVector .vmem, ⟨0, _⟩ => ⟨S64, .i32⟩
  | .local .scVector .vmem, ⟨1, _⟩ => ⟨S64, .i32⟩
  | .local .scVector .vmem, ⟨2, _⟩ => ⟨S64, .i32⟩
  | .local .scVector .vmem, ⟨3, _⟩ => ⟨S64, .f32⟩
  | .local .scVector .vmem, ⟨4, _⟩ => ⟨S64, .f32⟩
  | .local .scVector .vmem, ⟨5, _⟩ => ⟨S128, .f32⟩
  | _, _ => ⟨S8x256x32000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_64_r1 : BitVec 32 := 0#32
  ![v1.toNat, 0]
abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x32000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "conf_less_eps" => some ((287981 / 319980 : ℝ) : EReal)
  | "entropy" => some (((1 / 10) * (Real.log (129140163 / 106660000000000)) : ℝ) : EReal)
  | "eps" => some ((1 / 319980 : ℝ) : EReal)
  | "neg_eps" => some ((-1 / 319980 : ℝ) : EReal)
  | _ => none
-- ==== ReferenceIdeal.lean ====
abbrev S8x256x32000 : Shape := ⟨3, ![8, 256, 32000]⟩
abbrev S8x256 : Shape := ⟨2, ![8, 256]⟩
abbrev S2048x32000 : Shape := ⟨2, ![2048, 32000]⟩
abbrev S2048 : Shape := ⟨1, ![2048]⟩
abbrev S_ : Shape := ⟨0, ![]⟩
abbrev S1 : Shape := ⟨1, ![1]⟩
abbrev S2048x1 : Shape := ⟨2, ![2048, 1]⟩
abbrev S2048x2 : Shape := ⟨2, ![2048, 2]⟩
abbrev S8x8192000 : Shape := ⟨2, ![8, 8192000]⟩
abbrev S8 : Shape := ⟨1, ![8]⟩

abbrev nBuf : Space → Nat
  | .hbm => 71
  | .vmem => 0
  | .smem => 0
  | _ => 0

abbrev bufTy : (tb : Table) → Fin (tcTables nBuf tb) → BufTy
  | .hbm, ⟨0, _⟩ => ⟨S8x256x32000, .f32⟩
  | .hbm, ⟨1, _⟩ => ⟨S8x256, .i32⟩
  | .hbm, ⟨2, _⟩ => ⟨S2048x32000, .f32⟩
  | .hbm, ⟨3, _⟩ => ⟨S2048, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x32000, .f32⟩
  | .hbm, ⟨12, _⟩ => ⟨S_, .i32⟩
  | .hbm, ⟨13, _⟩ => ⟨S1, .i32⟩
  | .hbm, ⟨14, _⟩ => ⟨S_, .f32⟩
  | .hbm, ⟨15, _⟩ => ⟨S2048, .f32⟩
  | .hbm, ⟨16, _⟩ => ⟨S2048x32000, .f32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S2048x1, .i32⟩
  | .hbm, ⟨33, _⟩ => ⟨S2048x1, .i32⟩
  | .hbm, ⟨34, _⟩ => ⟨S2048x2, .i32⟩
  | .hbm, ⟨35, _⟩ => ⟨S2048, .f32⟩
  | .hbm, ⟨36, _⟩ => ⟨S2048x32000, .f32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S2048x1, .i1⟩
  | .hbm, ⟨41, _⟩ => ⟨S_, .f32⟩
  | .hbm, ⟨42, _⟩ => ⟨S_, .f32⟩
  | .hbm, ⟨43, _⟩ => ⟨S2048x32000, .i1⟩
  | .hbm, ⟨44, _⟩ => ⟨S2048x32000, .f32⟩
  | .hbm, ⟨45, _⟩ => ⟨S2048x32000, .f32⟩
  | .hbm, ⟨46, _⟩ => ⟨S_, .f32⟩
  | .hbm, ⟨47, _⟩ => ⟨S2048x32000, .f32⟩
  | .hbm, ⟨48, _⟩ => ⟨S2048x32000, .i1⟩
  | .hbm, ⟨49, _⟩ => ⟨S_, .f32⟩
  | .hbm, ⟨50, _⟩ => ⟨S2048x32000, .f32⟩
  | .hbm, ⟨51, _⟩ => ⟨S2048x32000, .i1⟩
  | .hbm, ⟨52, _⟩ => ⟨S_, .f32⟩
  | .hbm, ⟨53, _⟩ => ⟨S_, .f32⟩
  | .hbm, ⟨54, _⟩ => ⟨S2048x32000, .f32⟩
  | .hbm, ⟨55, _⟩ => ⟨S2048x32000, .f32⟩
  | .hbm, ⟨56, _⟩ => ⟨S2048x32000, .f32⟩
  | .hbm, ⟨57, _⟩ => ⟨S2048x32000, .f32⟩
  | .hbm, ⟨58, _⟩ => ⟨S2048x32000, .f32⟩
  | .hbm, ⟨59, _⟩ => ⟨S_, .f32⟩
  | .hbm, ⟨60, _⟩ => ⟨S_, .f32⟩
  | .hbm, ⟨61, _⟩ => ⟨S2048x32000, .f32⟩
  | .hbm, ⟨62, _⟩ => ⟨S2048x32000, .f32⟩
  | .hbm, ⟨63, _⟩ => ⟨S8x8192000, .f32⟩
  | .hbm, ⟨64, _⟩ => ⟨S_, .f32⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S_, .f32⟩
  | .hbm, ⟨70, _⟩ => ⟨S_, .f32⟩
  | _, _ => ⟨S8x256x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_6 : Ref sig .tc := ⟨.hbm, 25, rfl⟩
abbrev main_v15 : Ref sig .tc := ⟨.hbm, 26, rfl⟩
abbrev main_v16 : Ref sig .tc := ⟨.hbm, 27, rfl⟩
abbrev main_c_7 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_8 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v28 : Ref sig .tc := ⟨.hbm, 45, rfl⟩
abbrev main_cst_10 : Ref sig .tc := ⟨.hbm, 46, rfl⟩
abbrev main_v29 : Ref sig .tc := ⟨.hbm, 47, rfl⟩
abbrev main_v30 : Ref sig .tc := ⟨.hbm, 48, rfl⟩
abbrev main_cst_11 : Ref sig .tc := ⟨.hbm, 49, rfl⟩
abbrev main_v31 : Ref sig .tc := ⟨.hbm, 50, rfl⟩
abbrev main_v32 : Ref sig .tc := ⟨.hbm, 51, rfl⟩
abbrev main_cst_12 : Ref sig .tc := ⟨.hbm, 52, rfl⟩
abbrev main_call1_v0 : Ref sig .tc := ⟨.hbm, 53, rfl⟩
abbrev main_call1_v1 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_call2_v0 : Ref sig .tc := ⟨.hbm, 60, rfl⟩
abbrev main_call2_v1 : Ref sig .tc := ⟨.hbm, 61, rfl⟩
abbrev main_v37 : Ref sig .tc := ⟨.hbm, 62, rfl⟩
abbrev main_v38 : Ref sig .tc := ⟨.hbm, 63, rfl⟩
abbrev main_cst_14 : Ref sig .tc := ⟨.hbm, 64, rfl⟩
abbrev main_v39 : Ref sig .tc := ⟨.hbm, 65, rfl⟩
abbrev main_cst_15 : Ref sig .tc := ⟨.hbm, 66, rfl⟩
abbrev main_v40 : Ref sig .tc := ⟨.hbm, 67, rfl⟩
abbrev main_v41 : Ref sig .tc := ⟨.hbm, 68, rfl⟩
abbrev main_cst_16 : Ref sig .tc := ⟨.hbm, 69, rfl⟩
abbrev main_v42 : Ref sig .tc := ⟨.hbm, 70, rfl⟩

abbrev nD : Nat := 1
abbrev τ : Topo := Topo.v7x

variable {F : FTy → Type} [FloatOps F]
-- ==== Proof.GatherBatch.lean ====
/-
  Several indirect gathers in flight on ONE semaphore.

  A tile that issues two gathers on the same semaphore before it waits for either holds one record for both: a
  `Transfers.Batch` whose transfers are the ROWS of the gathers, in the order they are issued. `wp_gatherInBatch`
  issues one gather into such a record; the record's own waits (`Transfers.wp_waitBatchMulO`,
  `Transfers.wp_waitBatchAllO`) then serve the tile's waits, and `rowsBack_join` puts the rows of a gather together
  again: the destination written with the gather's payload, the source's share and the list's share.
-/
module

public import Idealize.ShloMosaic.Lib.Batch
public import Idealize.ShloMosaic.Lib.SparseCore.Stream
public import Idealize.ShloMosaic.Lib.SparseCore.Ops

@[expose] public section

noncomputable section

namespace Cert.GatherBatch

open Idealize.ShloMosaic Idealize.ShloMosaic.SparseCore
open Idealize.SL Idealize.SL.RA
open Idealize.SL.BI (sProp Storable bigSep)
open scoped Idealize.SL.BI
open Idealize.SL.BI.BIBase Idealize.SL.BI.Laws Idealize.SL.Sem Idealize.SL.ProofMode

section Split

variable {M : Type} [URA M]

/-- Position `j` of the block of `o` that starts at `k`, among `n`. -/
def blockEmb {n : ℕ} (k o : ℕ) (h : k + o ≤ n) : Fin o ↪ Fin n where
  toFun j := ⟨k + j.val, by omega⟩
  inj' a b hab := by
    have h2 : k + a.val = k + b.val := congrArg Fin.val hab
    exact Fin.ext (by omega)

/-- Transfers `k, k+1, …` of `n` are the `o` from `k` on and those from `k + o` on. -/
theorem bigSep_pending_block {n : ℕ} (X : Fin n → sProp M) (k o : ℕ) (h : k + o ≤ n) :
    bigSep (Transfers.pending (n := n) k) X
      = iprop((bigSep Finset.univ fun j : Fin o => X ⟨k + j.val, by omega⟩) ∗ bigSep (Transfers.pending (n := n) (k + o)) X) := by
  classical
  have mem : ∀ (l : ℕ) (t : Fin n), t ∈ Transfers.pending (n := n) l ↔ l ≤ t.val := fun l t => by
    simp [Transfers.pending]
  have hset : Transfers.pending (n := n) k = Finset.univ.map (blockEmb k o h) ∪ Transfers.pending (n := n) (k + o) := by
    ext t
    rw [Finset.mem_union, mem, mem, Finset.mem_map]
    constructor
    · intro ht
      by_cases h2 : k + o ≤ t.val
      · exact .inr h2
      · exact .inl ⟨⟨t.val - k, by omega⟩, Finset.mem_univ _, Fin.ext (show k + (t.val - k) = t.val by omega)⟩
    · rintro (⟨j, -, e⟩ | h2)
      · rw [← e]; exact Nat.le_add_right k j.val
      · omega
  rw [hset, BI.bigSep_union, BI.bigSep_map]
  · rfl
  · rw [Finset.disjoint_left]
    intro t ht ht'
    obtain ⟨j, -, e⟩ := Finset.mem_map.mp ht
    rw [mem, ← e] at ht'
    have h3 : k + o ≤ k + j.val := ht'
    omega

/-- A family over `p + q` is its first `p` and its last `q`. -/
theorem bigSep_two_blocks {n p q : ℕ} (h : p + q = n) (X : Fin n → sProp M) :
    bigSep Finset.univ X = iprop((bigSep Finset.univ fun j : Fin p => X ⟨j.val, by omega⟩)
      ∗ bigSep Finset.univ fun j : Fin q => X ⟨p + j.val, by omega⟩) := by
  subst h
  rw [BI.bigSep_univ_equiv finSumFinEquiv, BI.bigSep_univ_sum]
  rfl

/-- A family over `p + q` made of one over `p` and one over `q`. -/
def twoBlocks {n p q : ℕ} (h : p + q = n) (X : Fin p → sProp M) (Y : Fin q → sProp M) : Fin n → sProp M :=
  fun t => if ht : t.val < p then X ⟨t.val, ht⟩ else Y ⟨t.val - p, by omega⟩

/-- The first block of it. -/
theorem twoBlocks_left {n p q : ℕ} (h : p + q = n) (X : Fin p → sProp M) (Y : Fin q → sProp M) (t : Fin n) (j : Fin p) (e : t.val = j.val) :
    twoBlocks h X Y t = X j := by
  unfold twoBlocks
  rw [dif_pos (by omega)]; exact congrArg X (Fin.ext e)

/-- The second block of it. -/
theorem twoBlocks_right {n p q : ℕ} (h : p + q = n) (X : Fin p → sProp M) (Y : Fin q → sProp M) (t : Fin n) (j : Fin q) (e : t.val = p + j.val) :
    twoBlocks h X Y t = Y j := by
  unfold twoBlocks
  rw [dif_neg (by omega)]; exact congrArg Y (Fin.ext (by show t.val - p = _; omega))

/-- All of it is both blocks. -/
theorem bigSep_twoBlocks {n p q : ℕ} (h : p + q = n) (X : Fin p → sProp M) (Y : Fin q → sProp M) :
    bigSep Finset.univ (twoBlocks h X Y) = iprop(bigSep Finset.univ X ∗ bigSep Finset.univ Y) := by
  rw [bigSep_two_blocks h]
  congr 1
  · exact BI.bigSep_congr fun j _ => twoBlocks_left h X Y _ j rfl
  · exact BI.bigSep_congr fun j _ => twoBlocks_right h X Y _ j rfl

/-- A resource put aside: `P` itself, not to be looked into. -/
@[irreducible] def aside (P : sProp M) : sProp M := P

/-- Putting a resource aside. -/
theorem aside_intro (P : sProp M) : P ⊢ aside P := by unfold aside; exact .rfl

/-- Taking it back. -/
theorem aside_elim (P : sProp M) : aside P ⊢ P := by unfold aside; exact .rfl

end Split

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- A family of two storable blocks is storable. -/
instance {n p q : ℕ} (h : p + q = n) (X : Fin p → sProp 𝕄) (Y : Fin q → sProp 𝕄) [∀ j, Storable (upEmb : UEmb _ 𝕄) (X j)]
    [∀ j, Storable (upEmb : UEmb _ 𝕄) (Y j)] (t : Fin n) : Storable (upEmb : UEmb _ 𝕄) (twoBlocks h X Y t) := by
  unfold twoBlocks; split <;> infer_instance

/-- The index of the list that entry `j` of a gather reads: the `j`-th in row-major order. -/
def listIx {o : ℕ} (hn : si.numel = o) (j : Fin o) : si.Idx := si.rowMajor.symm (j.cast hn.symm)

/-- Every index of the list is read by exactly one entry. -/
theorem listIx_bijective {o : ℕ} (hn : si.numel = o) : Function.Bijective (listIx (si := si) hn) :=
  si.rowMajor.symm.bijective.comp (finCongr hn.symm).bijective

/-- The words of row `j`: those of the source's row the list names at `j`. -/
def rowWords (src : Memref sig c.2.kind sp s₀ e) (hg : s₀.Gathers a s)
    (offs : Memref sig c.2.kind .vmem si .i32) (hn : si.numel = s.size hg.axis')
    (fs : Buf (Elt F) (src.view.loc c)) (fo : Buf (Elt F) (offs.view.loc c))
    (hin : ∀ x, (offs.view.read (Elt F) fo x).toNat < s₀.size hg.axis) (j : Fin (s.size hg.axis')) :
    (s.rowShape hg.axis').Idx → Elt F e :=
  fun i => src.view.read (Elt F) fs (hg.rowIdx (rows (offs.view.read (Elt F) fo) hn hin j) i)

/-- WHAT ROW `j` OF A GATHER DELIVERS: row `j` of the destination, written with the source's row the list names; the
    entry's share of the list; the row's piece of the source's share. -/
def rowBack (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (ho : 0 < s.size hg.axis') (j : Fin (s.size hg.axis')) : sProp 𝕄 :=
  iprop(((dst.view.loc c ↦[(dst.view.slice (s.rowRect hg.axis' j)).set]{fullShare}
            ((dst.view.slice (s.rowRect hg.axis' j)).write (Elt F) fd
              (rowWords c src hg offs hn fs fo hin j) Finset.univ))
      ∗ (offs.view.loc c ↦[{offs.view.emb (listIx hn j)}]{qo} fo))
    ∗ (src.view.loc c ↦[src.view.set]{pieceOf q _ ho j} fs))

/-- A row's delivery is storable. -/
instance instStorableRowBack (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (ho : 0 < s.size hg.axis') (j : Fin (s.size hg.axis')) :
    Storable (upEmb : UEmb _ 𝕄) (rowBack c src dst hg offs hn q qo fs fd fo hin ho j : sProp 𝕄) := by
  unfold rowBack; infer_instance

/-- The rows of a gather, all delivered, are the destination written with the gather's payload, the source's share
    whole and the list's share whole. -/
theorem rowsBack_join (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (ho : 0 < s.size hg.axis') :
    (bigSep Finset.univ (rowBack c src dst hg offs hn q qo fs fd fo hin ho) : sProp 𝕄)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  unfold rowBack
  iintro H
  ihave H1 := Transfers.bigSep_sep_out _ _ _ $$ H
  icases H1 with ⟨H2, Hsrc⟩
  ihave H3 := Transfers.bigSep_sep_out _ _ _ $$ H2
  icases H3 with ⟨Hdst, Hlist⟩
  isplitl [Hdst]
  · iapply (pointsTo_rows_write c dst.view hg.axis' fd (rowWords c src hg offs hn fs fo hin)
      (gatherPayload hg (src.view.read (Elt F) fs) (rows (offs.view.read (Elt F) fo) hn hin))
      (fun j i => by unfold gatherPayload rowWords; rw [Shape.Gathers.idx_rowRect_emb])) $$ Hdst
  isplitl [Hsrc]
  · iapply (Entails.of_eq (pointsTo_piecesOf src.view.set fs ho q).symm) $$ Hsrc
  · iapply (Entails.of_eq (pointsTo_entries c offs.view (listIx hn) (listIx_bijective hn) qo fo).symm) $$ Hlist

/-- ISSUING A GATHER INTO A BATCH. The tile holds a share of the source, the destination outright, a share of the
    offset list with every word in range, and the record of a batch with `k` row transfers issued whose next
    transfers are this gather's rows; it goes on with the record of the batch with those issued too. -/
theorem wp_gatherInBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {κ : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {n k u : ℕ} {D : Fin n → sProp 𝕄} (hk : k + s.size hg.axis' ≤ n) (hu : u ≤ k * N)
    (hD : ∀ j, rowBack c src dst hg offs hn q qo fs fd fo hin ho j ⊢ D ⟨k + j.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D k u)
      ⊢ iprop((Transfers.Batch EC c (.dma sem) ι N D (k + s.size hg.axis') u -∗ wp frame (wpE defs 𝒱 c bd) Set.univ (κ ⟨⟩) Q)
          -∗ wp frame (wpE defs 𝒱 c bd) Set.univ (enqueueIndirectGather hp src dst hg offs hn sem hsrc he hsp hr >>= κ) Q) := by
  rw [enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun j =>
    gatherRow c src dst hg sem hsrc he hsp hr j (rows (offs.view.read (Elt F) fo) hn hin j)
  have agree : S.RowsAgree := by
    intro j x x' ρ ρ' h h'
    obtain ⟨_, _, e1⟩ := Option.map_eq_some_iff.mp h
    obtain ⟨_, _, e2⟩ := Option.map_eq_some_iff.mp h'
    subst e1; subst e2; rfl
  have named : ∀ j, S.row j (S.word fo j) = some (rd j) := fun j => by
    show (rowOf (s₀.size hg.axis) (offs.view.read (Elt F) fo (S.entry j))).map _ = _
    rw [rowOf_of_lt (hin _)]; rfl
  have total : ∑ j, (rd j).dst.view.dmaCredit = s.size hg.axis' * N := by
    rw [Finset.sum_congr rfl fun j _ => hN j, Finset.sum_const, Finset.card_univ, Fintype.card_fin, smul_eq_mul]
  unfold Transfers.Batch
  iintro ⟨Hs, Hd, Ho, ⟨%γ, %γ₀, %κ', #Hinv, HI, H0, Hcred⟩⟩ Hk
  ihave HI' := (Entails.of_eq (bigSep_pending_block (fun t => count EC (γ t) 0) k (s.size hg.axis') hk)) $$ HI
  icases HI' with ⟨Hnow, HI⟩
  ihave Hd' := (Entails.of_eq (pointsTo_rows c dst.view hg.axis' fullShare fd)) $$ Hd
  ihave Ho' := (Entails.of_eq (pointsTo_entries c offs.view (listIx hn) (listIx_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) agree named total) $$ [Hd' Ho' Hs' Hnow]
  · have each : ∀ j, iprop(inv κ' (Transfers.batchBody EC (c, SemLoc.dma sem) N D γ γ₀)
          ∗ ((((dst.view.loc c ↦[(dst.view.slice (s.rowRect hg.axis' j)).set]{fullShare} fd)
              ∗ (offs.view.loc c ↦[{offs.view.emb (listIx hn j)}]{qo} fo))
            ∗ (src.view.loc c ↦[src.view.set]{pieceOf q _ ho j} fs)) ∗ count EC (γ ⟨k + j.val, by omega⟩) 0))
        ⊢ iprop(S.heldEntry qo fo j ∗ (S.heldEntry qo fo j -∗ rowRes c (rd j))) := fun j => by
      iintro ⟨#Hinv, ⟨⟨Hrow, Hent⟩, Hsrc⟩, Hright⟩
      isplitl [Hent]; · iexact Hent
      iintro Hent
      unfold rowRes
      iexists pieceOf q _ ho j, fs, iprop((dst.view.loc c ↦[(dst.view.slice (s.rowRect hg.axis' j)).set]{fullShare}
            ((dst.view.slice (s.rowRect hg.axis' j)).write (Elt F) fd
              (rowWords c src hg offs hn fs fo hin j) Finset.univ))
          ∗ (offs.view.loc c ↦[{offs.view.emb (listIx hn j)}]{qo} fo))
      isplitl [Hsrc]; · iexact Hsrc
      isplitl [Hrow Hent]
      · iapply writeUpdate_frame
        isplitl [Hrow]
        · iapply (pointsTo_writeUpdate c (v := dst.view.slice (s.rowRect hg.axis' j)) subset_rfl) $$ Hrow
        · iexact Hent
      · have hc : (rd j).dst.view.dmaCredit = N := hN j
        have up := Transfers.batch_creditUpdate EC (g := (c, SemLoc.dma sem)) (N := N) (D := D) (γ := γ) (γ₀ := γ₀) (ι := κ')
          ⟨k + j.val, by omega⟩ (hD j)
        rw [← hc] at up ⊢
        iapply up
        isplitr; · iexact Hinv
        iexact Hright
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hnow]; · isplitl [H2] <;> iassumption
    iapply (Transfers.bigSep_mono_pers Finset.univ _ _ _ fun j _ => each j)
    isplitr; · iexact Hinv
    iexact H3
  · iintro Hcred'
    iapply Hk
    iexists γ, γ₀, κ'
    isplitr; · iexact Hinv
    isplitl [HI]; · iexact HI
    isplitl [H0]; · iexact H0
    rw [show (k + s.size hg.axis') * N - u = (k * N - u) + s.size hg.axis' * N by rw [Nat.add_mul]; omega, ← tallyAt_add]
    icombine Hcred Hcred' as H
    iexact H

end Cert.GatherBatch

end
-- ==== Proof.Pre.lean ====
/-
  WHAT THE PRECONDITIONS SAY: every label is a word below 32000; of the second, also that every logit is a finite number.
-/
module

public import proofs.«01_k».proof.Proof.Gen.Pre_in_vocab
public import proofs.«01_k».proof.Proof.Gen.Pre_finite_in_vocab
public import Idealize.ShloMosaic.Lib.ReduceAll
public import Idealize.ShloMosaic.PureOps.Ideal

@[expose] public section

namespace Cert.Pre

open Idealize.ShloMosaic

instance scalar_subsingleton : Subsingleton Cert.Pre_in_vocab.S_.Idx := ⟨fun _ _ => funext fun a => a.elim0⟩

theorem and_ofBool (p q : Bool) : IntOp.andi (BitVec.ofBool p) (BitVec.ofBool q) = BitVec.ofBool (p && q) := by
  cases p <;> cases q <;> decide
theorem ofBool_one (p : Bool) : (BitVec.ofBool p = 1#1) ↔ p = true := by cases p <;> decide

/-- Not negative and below 32000 as signed words is below 32000 as a number. -/
theorem word_lt (v : BitVec 32) (e : IntOp.andi (IntOp.cmpi .sge v 0#32) (IntOp.cmpi .slt v 32000#32) = 1#1) : v.toNat < 32000 := by
  simp only [IntOp.cmpi, and_ofBool, ofBool_one, Bool.and_eq_true, BitVec.sle_eq_decide, BitVec.slt_eq_decide,
    decide_eq_true_eq, BitVec.toInt_eq_toNat_cond, BitVec.toNat_ofNat, Nat.reducePow, Nat.reduceMod] at e
  omega

theorem and_left {a b : BitVec 1} (h : IntOp.andi a b = 1#1) : a = 1#1 := by revert a b; decide
theorem and_right {a b : BitVec 1} (h : IntOp.andi a b = 1#1) : b = 1#1 := by revert a b; decide

/-- The first precondition bounds every label. -/
theorem labels_lt {F : FTy → Type} [FloatOps F] (x : FVec F Cert.Pre_in_vocab.S8x256x32000 .f32) (l : IVec Cert.Pre_in_vocab.S8x256 32)
    (h : Cert.Pre_in_vocab.fn x l = fun _ => 1#1) (i : Cert.Pre_in_vocab.S8x256.Idx) : (l i).toNat < 32000 :=
  word_lt _ (Host.reduce_andi_all _ _ _ _ (fun a => a.elim0) (congrFun h _) i)

/-- The second bounds every label too; -/
theorem labels_lt' {F : FTy → Type} [FloatOps F] (x : FVec F Cert.Pre_finite_in_vocab.S8x256x32000 .f32) (l : IVec Cert.Pre_finite_in_vocab.S8x256 32)
    (h : Cert.Pre_finite_in_vocab.fn x l = fun _ => 1#1) (i : Cert.Pre_finite_in_vocab.S8x256.Idx) : (l i).toNat < 32000 :=
  word_lt _ (Host.reduce_andi_all _ _ _ _ (fun a => a.elim0) (and_left (congrFun h (fun a => a.elim0))) i)

/-- and makes every logit a real number. -/
theorem logits_real (x : FVec Ideal Cert.Pre_finite_in_vocab.S8x256x32000 .f32) (l : IVec Cert.Pre_finite_in_vocab.S8x256 32)
    (h : Cert.Pre_finite_in_vocab.fn x l = fun _ => 1#1) (i : Cert.Pre_finite_in_vocab.S8x256x32000.Idx) : ∃ r : ℝ, x i = (r : EReal) := by
  have e := Host.reduce_andi_all _ _ _ _ (fun a => a.elim0) (and_right (congrFun h (fun a => a.elim0))) i
  have e' : Ideal.cmp .olt (max (x i) (-(x i))) (Ideal.ofBits .f32 0x7F800000#32) = 1#1 := e
  have hlt : max (x i : EReal) (-(x i)) < ⊤ := by
    simpa [Ideal.cmp, Ideal.ofBits, Ideal.ieee, ofBool_one] using e'
  generalize x i = y at hlt ⊢
  change EReal at y
  induction y with
  | bot => exact absurd (lt_of_le_of_lt (le_max_right _ _) hlt) (by simp)
  | top => exact absurd (lt_of_le_of_lt (le_max_left _ _) hlt) (by simp)
  | coe r => exact ⟨r, rfl⟩

end Cert.Pre
-- ==== Proof.Frame.lean ====
/-
  THE FRAME of `Kernel`: from the precondition to the run, and the run read at the arguments and the counters.
-/
module

public import proofs.«01_k».proof.Proof.Main
public import proofs.«01_k».proof.Proof.Pre

@[expose] public section

noncomputable section

namespace Cert.Kernel.Tile

open Cert.Kernel Cert.Kernel.Gen
open Idealize.ShloMosaic Idealize.ShloMosaic.TcCoe Idealize.SL.Sem

variable {F : FTy → Type} [FloatOps F]

/-- The flat labels are the labels re-read, so they are below 32000 when those are. -/
theorem labels_ok (m : (ℓ : Loc nD τ sig) → Buf (Elt F) ℓ)
    (h : ∀ (d : Dev nD) (i : S8x256.Idx), ((m ((d : Thread nD τ).loc main_arg1) : S8x256.Idx → BitVec 32) i).toNat < 32000) : LabelsOK (flatL m) := by
  intro d j
  have e : flatL m d = shapeCast S2048 (m ((d : Thread nD τ).loc main_arg1) : S8x256.Idx → BitVec 32) shapeCasts_S8x256_S2048 := by
    unfold flatL Vc
    rw [StableHlo.reshape_result_ne (h := by decide), StableHlo.reshape_result]
    rfl
  rw [e]
  exact h d _

/-- `Cert.quiescent_Kernel`. -/
theorem frame : Cert.quiescent_Kernel := fun m ρ hpre =>
  (θ_run Cert.Kernel.defs _ _).mono (fun _ h => ⟨fun d => ⟨(h.1 d).1, (h.1 d).2.1⟩, h.2⟩)
    (run_main m ρ (labels_ok m fun d i => Cert.Pre.labels_lt _ _ (hpre d) i))

end Cert.Kernel.Tile

end
-- ==== Proof.IdealWords.lean ====
/-
  THE VALUES ONE SPARSECORE TASK OF `KernelIdeal` COMPUTES, away from its memory. A task has 64 rows of the logits. Their two lists
  of words of the flat logits are `idxT` (the row's label) and `idx0` (the row's column 0); what a row contributes is
  `contrib`; lane `l` of the task's sixteen sums is `lanes` at `l`, four rows added one after another; the row of the
  result it writes is `outRow`; the whole result is `outVal`. The instructions' payloads are these.
-/
module

public import proofs.«01_k».proof.Defs
public import Idealize.ShloMosaic.Lib.Pipeline.Value
public import proofs.«01_k».proof.Proof.Gen.KernelIdeal
public import proofs.«01_k».proof.Proof.Gen.KernelIdeal.Skeleton

@[expose] public section

noncomputable section

namespace Cert.KernelIdeal.Tile

open Cert.KernelIdeal Cert.KernelIdeal.Gen
open Idealize.ShloMosaic

variable {F : FTy → Type}

/-- The index `n` of a list of 64. -/
def ix64 (n : ℕ) (h : n < 64) : S64.Idx := fun | 0 => ⟨n, h⟩
/-- The index `n` of a list of 2048. -/
def ix2048 (n : ℕ) (h : n < 2048) : S2048.Idx := fun | 0 => ⟨n, h⟩
/-- The index `n` of sixteen lanes. -/
def ix16 (n : ℕ) (h : n < 16) : S16.Idx := fun | 0 => ⟨n, h⟩
/-- Word `n` of the flat logits (`n` modulo their number, so that the index is one for every `n`). -/
def wordIx (n : ℕ) : S65536000.Idx := fun | 0 => ⟨n % 65536000, Nat.mod_lt _ (by decide)⟩

/-- Two indices of one axis are the same when their coordinate is. -/
theorem idx1_ext {s : Shape} (hs : s.rank = 1) {i j : s.Idx} (h : (i ⟨0, by omega⟩).val = (j ⟨0, by omega⟩).val) : i = j := by
  funext a
  have ha : a = ⟨0, by omega⟩ := Fin.ext (by have := a.isLt; omega)
  subst ha; exact Fin.ext h

/-- The number of the task at grid coordinates `L`. -/
def wN (L : grid0.Coords) : ℕ := 2 * (L 1).val + (L 0).val

theorem wN_lt (L : grid0.Coords) : wN L < 32 := by
  have h1 : (L 1).val < 16 := (L 1).isLt
  have h0 : (L 0).val < 2 := (L 0).isLt
  unfold wN; omega

/-- The word of the flat logits that holds row `64 w + j`'s logit at its label. -/
def idxT (w : ℕ) (lab : S64.Idx → BitVec 32) : S64.Idx → BitVec 32 := fun j => BitVec.ofNat 32 ((64 * w + (j 0).val) * 32000 + (lab j).toNat)
/-- The word of the flat logits that holds row `64 w + j`'s logit at column 0. -/
def idx0 (w : ℕ) : S64.Idx → BitVec 32 := fun j => BitVec.ofNat 32 ((64 * w + (j 0).val) * 32000)

/-- A word in range: `idxT` is its own value, below the number of the logits. -/
theorem idxT_toNat {w : ℕ} (hw : w < 32) (lab : S64.Idx → BitVec 32) (j : S64.Idx) (h : (lab j).toNat < 32000) :
    (idxT w lab j).toNat = (64 * w + (j 0).val) * 32000 + (lab j).toNat ∧ (idxT w lab j).toNat < 65536000 := by
  have hj : (j 0).val < 64 := (j 0).isLt
  have e : (idxT w lab j).toNat = ((64 * w + (j 0).val) * 32000 + (lab j).toNat) % 2 ^ 32 := BitVec.toNat_ofNat _ _
  rw [e, Nat.mod_eq_of_lt (by omega)]; omega
/-- `idx0` is its own value, below the number of the logits. -/
theorem idx0_toNat {w : ℕ} (hw : w < 32) (j : S64.Idx) :
    (idx0 w j).toNat = (64 * w + (j 0).val) * 32000 ∧ (idx0 w j).toNat < 65536000 := by
  have hj : (j 0).val < 64 := (j 0).isLt
  have e : (idx0 w j).toNat = ((64 * w + (j 0).val) * 32000) % 2 ^ 32 := BitVec.toNat_ofNat _ _
  rw [e, Nat.mod_eq_of_lt (by omega)]; omega

/-- The word the task's first row has, as the task computes it. -/
def base (L : grid0.Coords) : BitVec 32 :=
  Scalar.muli (Scalar.addi (Scalar.muli (BitVec.ofNat 32 (L 1).val) 2#32) (BitVec.ofNat 32 (L 0).val)) 64#32

theorem base_eq (L : grid0.Coords) : base L = BitVec.ofNat 32 (64 * wN L) := by
  show (BitVec.ofNat 32 (L 1).val * 2#32 + BitVec.ofNat 32 (L 0).val) * 64#32 = _
  unfold wN
  rw [Nat.mul_comm 64, Nat.mul_comm 2]
  simp only [BitVec.ofNat_add, BitVec.ofNat_mul]

/-- The words computed from a row's number, in the order the instructions add and multiply. -/
theorem word0_eq (n k l m : ℕ) (hm : m = k + l) :
    (BitVec.ofNat 32 n + BitVec.ofNat 32 k + BitVec.ofNat 32 l) * 32000#32 = BitVec.ofNat 32 ((n + m) * 32000) := by
  subst hm
  simp only [← BitVec.ofNat_add, ← BitVec.ofNat_mul, Nat.add_assoc]
theorem wordT_eq (n k l m : ℕ) (lab : BitVec 32) (hm : m = k + l) :
    (BitVec.ofNat 32 n + BitVec.ofNat 32 k + BitVec.ofNat 32 l) * 32000#32 + lab = BitVec.ofNat 32 ((n + m) * 32000 + lab.toNat) := by
  rw [word0_eq n k l m hm, BitVec.ofNat_add]
  simp

variable [FloatOps F] [Named F]

/-- The four stores of the first list: group `k`'s payload is the list from `16 k` on. -/
theorem pay2_eq (L : grid0.Coords) (v : Vec F S16 .i32) (lab : S64.Idx → BitVec 32) (x : S16.Idx) (y : S64.Idx)
    (hv : v x = lab y) (hy : (y 0).val = 0 + (x 0).val) : k0_pay2 L v x = idxT (wN L) lab y := by
  unfold k0_pay2; rw [shapeCast_self, shapeCast_self]
  show (base L + 0#32 + BitVec.ofNat 32 (0 * 16 + (x 0).val)) * 32000#32 + v x = _
  rw [base_eq, hv]; exact wordT_eq _ 0 _ _ _ (by rw [hy]; omega)
theorem pay5_eq (L : grid0.Coords) (v : Vec F S16 .i32) (lab : S64.Idx → BitVec 32) (x : S16.Idx) (y : S64.Idx)
    (hv : v x = lab y) (hy : (y 0).val = 16 + (x 0).val) : k0_pay5 L v x = idxT (wN L) lab y := by
  unfold k0_pay5; rw [shapeCast_self, shapeCast_self]
  show (base L + 16#32 + BitVec.ofNat 32 (0 * 16 + (x 0).val)) * 32000#32 + v x = _
  rw [base_eq, hv]; exact wordT_eq _ 16 _ _ _ (by rw [hy]; omega)
theorem pay9_eq (L : grid0.Coords) (v : Vec F S16 .i32) (lab : S64.Idx → BitVec 32) (x : S16.Idx) (y : S64.Idx)
    (hv : v x = lab y) (hy : (y 0).val = 32 + (x 0).val) : k0_pay9 (base L) v x = idxT (wN L) lab y := by
  unfold k0_pay9; rw [shapeCast_self, shapeCast_self]
  show (base L + 32#32 + BitVec.ofNat 32 (0 * 16 + (x 0).val)) * 32000#32 + v x = _
  rw [base_eq, hv]; exact wordT_eq _ 32 _ _ _ (by rw [hy]; omega)
theorem pay12_eq (L : grid0.Coords) (v : Vec F S16 .i32) (lab : S64.Idx → BitVec 32) (x : S16.Idx) (y : S64.Idx)
    (hv : v x = lab y) (hy : (y 0).val = 48 + (x 0).val) : k0_pay12 (base L) v x = idxT (wN L) lab y := by
  unfold k0_pay12; rw [shapeCast_self, shapeCast_self]
  show (base L + 48#32 + BitVec.ofNat 32 (0 * 16 + (x 0).val)) * 32000#32 + v x = _
  rw [base_eq, hv]; exact wordT_eq _ 48 _ _ _ (by rw [hy]; omega)

omit [FloatOps F] [Named F] in
/-- The four stores of the second list. -/
theorem pay3_eq (L : grid0.Coords) (x : S16.Idx) (y : S64.Idx) (hy : (y 0).val = 0 + (x 0).val) : k0_pay3 L x = idx0 (wN L) y := by
  unfold k0_pay3; rw [shapeCast_self]
  show (base L + 0#32 + BitVec.ofNat 32 (0 * 16 + (x 0).val)) * 32000#32 = _
  rw [base_eq]; exact word0_eq _ 0 _ _ (by rw [hy]; omega)
omit [FloatOps F] [Named F] in
theorem pay7_eq (L : grid0.Coords) (x : S16.Idx) (y : S64.Idx) (hy : (y 0).val = 16 + (x 0).val) : k0_pay7 (k0_pay6 L) x = idx0 (wN L) y := by
  unfold k0_pay7; rw [shapeCast_self]
  show (base L + 16#32 + BitVec.ofNat 32 (0 * 16 + (x 0).val)) * 32000#32 = _
  rw [base_eq]; exact word0_eq _ 16 _ _ (by rw [hy]; omega)
omit [FloatOps F] [Named F] in
theorem pay10_eq (L : grid0.Coords) (x : S16.Idx) (y : S64.Idx) (hy : (y 0).val = 32 + (x 0).val) : k0_pay10 (base L) x = idx0 (wN L) y := by
  unfold k0_pay10; rw [shapeCast_self]
  show (base L + 32#32 + BitVec.ofNat 32 (0 * 16 + (x 0).val)) * 32000#32 = _
  rw [base_eq]; exact word0_eq _ 32 _ _ (by rw [hy]; omega)
omit [FloatOps F] [Named F] in
theorem pay13_eq (L : grid0.Coords) (x : S16.Idx) (y : S64.Idx) (hy : (y 0).val = 48 + (x 0).val) : k0_pay13 (base L) x = idx0 (wN L) y := by
  unfold k0_pay13; rw [shapeCast_self]
  show (base L + 48#32 + BitVec.ofNat 32 (0 * 16 + (x 0).val)) * 32000#32 = _
  rw [base_eq]; exact word0_eq _ 48 _ _ (by rw [hy]; omega)

/-- Zero, at the format. -/
def zeroF : F .f32 := Scalar.ofBits .f32 0x00000000#32
/-- The three constants of a row's contribution. -/
def cEps : F .f32 := Named.named κ "eps" 0x3651BA72#32
def cEnt : F .f32 := Named.named κ "entropy" 0xBFAE63F8#32
def cConf : F .f32 := Named.named κ "conf_less_eps" 0x3F666632#32

/-- What a row contributes, from its label, its logit at the label and its logit at column 0: nothing when the label is 0. -/
def contrib (lab : BitVec 32) (xt x0 : F .f32) : F .f32 :=
  Scalar.select (IntOp.cmpi .ne lab 0#32) (FloatOps.subf (FloatOps.addf cEnt (FloatOps.mulf cEps x0)) (FloatOps.mulf cConf xt)) zeroF

/-- Row `n` of the task's 64. -/
def rowC (lab : S64.Idx → BitVec 32) (xt x0 : S64.Idx → F .f32) (n : ℕ) (h : n < 64) : F .f32 :=
  contrib (lab (ix64 n h)) (xt (ix64 n h)) (x0 (ix64 n h))

/-- Lane `l`: rows `l`, `16 + l`, `32 + l`, `48 + l`, added to zero in this order. -/
def lanes (lab : S64.Idx → BitVec 32) (xt x0 : S64.Idx → F .f32) : S16.Idx → F .f32 := fun l =>
  have h : (l 0).val < 16 := (l 0).isLt
  FloatOps.addf (FloatOps.addf (FloatOps.addf (FloatOps.addf zeroF (rowC lab xt x0 (0 + (l 0).val) (by omega)))
    (rowC lab xt x0 (16 + (l 0).val) (by omega))) (rowC lab xt x0 (32 + (l 0).val) (by omega))) (rowC lab xt x0 (48 + (l 0).val) (by omega))

/-- The sixteen lanes from `o` of a list of 64. -/
def grp {α : Type} (f : S64.Idx → α) (o : ℕ) (ho : o + 16 ≤ 64) : S16.Idx → α := fun x =>
  f (ix64 (o + (x 0).val) (by have h : (x 0).val < 16 := (x 0).isLt; omega))

/-- The payload of the task's last store to lanes 0 to 15 is the lanes' sums. -/
theorem pay_lanes (lab : S64.Idx → BitVec 32) (xt x0 : S64.Idx → F .f32) :
    k0_pay25 (F := F) (k0_pay15 (k0_pay14 (F := F) (grp lab 0 (by omega)) (grp xt 0 (by omega)) (grp x0 0 (by omega))
        (grp lab 16 (by omega)) (grp xt 16 (by omega)) (grp x0 16 (by omega)))
      (grp lab 32 (by omega)) (grp xt 32 (by omega)) (grp x0 32 (by omega)) (grp lab 48 (by omega)) (grp xt 48 (by omega)) (grp x0 48 (by omega)))
      = lanes lab xt x0 := by
  unfold k0_pay25 k0_pay15 k0_pay14
  simp only [shapeCast_self]
  rfl

/-- The row of the result the task writes: the sums in lanes 0 to 15, zero in the others. -/
def outRow (lab : S64.Idx → BitVec 32) (xt x0 : S64.Idx → F .f32) : S128.Idx → F .f32 := fun j =>
  if h : (j 0).val < 16 then lanes lab xt x0 (ix16 (j 0).val h) else zeroF

/-- The labels of task `w`, of all the labels. -/
def labsOf (lb : S2048.Idx → BitVec 32) (w : Fin 32) : S64.Idx → BitVec 32 := fun j =>
  lb (ix2048 (64 * w.val + (j 0).val) (by have h : (j 0).val < 64 := (j 0).isLt; omega))
/-- The logits of task `w`'s rows at their labels, and at column 0. -/
def xtOf (x : S65536000.Idx → F .f32) (lb : S2048.Idx → BitVec 32) (w : Fin 32) : S64.Idx → F .f32 := fun j =>
  x (wordIx ((64 * w.val + (j 0).val) * 32000 + (labsOf lb w j).toNat))
def x0Of (x : S65536000.Idx → F .f32) (w : Fin 32) : S64.Idx → F .f32 := fun j => x (wordIx ((64 * w.val + (j 0).val) * 32000))

/-- The result of the SparseCore call, from the labels and the flat logits. -/
def outVal (x : S65536000.Idx → F .f32) (lb : S2048.Idx → BitVec 32) : S32x128.Idx → F .f32 := fun ij =>
  outRow (labsOf lb (ij 0)) (xtOf x lb (ij 0)) (x0Of x (ij 0)) (fun | 0 => ij 1)

end Cert.KernelIdeal.Tile

end
-- ==== Proof.IdealTile.lean ====
/-
  THE SPARSECORE CALL of `KernelIdeal`: thirty-two tasks, one on each vector subcore of the two SparseCores. Task `w`
  fetches its 64 labels, computes for each of its 64 rows the word of the flat logits at the row's label and the word at
  the row's column 0, gathers both lists of words (two indirect gathers in flight on one semaphore), sums lane by lane
  what the rows contribute, and writes 128 lanes to its row of the result.
-/
module

public import proofs.«01_k».proof.Defs
public import proofs.«01_k».proof.Proof.GatherBatch
public import proofs.«01_k».proof.Proof.IdealWords
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore region's rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## The buffers and their rows -/

abbrev lLoc (d : Dev nD) : Loc nD τ sig := (SparseCore.T d).loc main_v0
abbrev xLoc (d : Dev nD) : Loc nD τ sig := (SparseCore.T d).loc main_v1
abbrev oLoc (d : Dev nD) : Loc nD τ sig := (SparseCore.T d).loc main_v2

local notation "xV" => (Memref.whole Cert.KernelIdeal.main_v1_scv : Memref Cert.KernelIdeal.sig Kind.scVector Space.hbm Cert.KernelIdeal.S65536000 EltTy.f32)
local notation "lV" => (Memref.whole Cert.KernelIdeal.main_v0_scv : Memref Cert.KernelIdeal.sig Kind.scVector Space.hbm Cert.KernelIdeal.S2048 EltTy.i32)
local notation "oV" => (Memref.whole Cert.KernelIdeal.main_v2_scv : Memref Cert.KernelIdeal.sig Kind.scVector Space.hbm Cert.KernelIdeal.S32x128 EltTy.f32)
local notation "aV" => (Memref.whole Cert.KernelIdeal.cc0_scratch0 : Memref Cert.KernelIdeal.sig Kind.scVector Space.vmem Cert.KernelIdeal.S64 EltTy.i32)
local notation "bV" => (Memref.whole Cert.KernelIdeal.cc0_scratch1 : Memref Cert.KernelIdeal.sig Kind.scVector Space.vmem Cert.KernelIdeal.S64 EltTy.i32)
local notation "cV" => (Memref.whole Cert.KernelIdeal.cc0_scratch2 : Memref Cert.KernelIdeal.sig Kind.scVector Space.vmem Cert.KernelIdeal.S64 EltTy.i32)
local notation "tV" => (Memref.whole Cert.KernelIdeal.cc0_scratch3 : Memref Cert.KernelIdeal.sig Kind.scVector Space.vmem Cert.KernelIdeal.S64 EltTy.f32)
local notation "zV" => (Memref.whole Cert.KernelIdeal.cc0_scratch4 : Memref Cert.KernelIdeal.sig Kind.scVector Space.vmem Cert.KernelIdeal.S64 EltTy.f32)
local notation "rV" => (Memref.whole Cert.KernelIdeal.cc0_scratch5 : Memref Cert.KernelIdeal.sig Kind.scVector Space.vmem Cert.KernelIdeal.S128 EltTy.f32)

theorem ldiv : 32 ∣ S2048.size 0 := ⟨64, rfl⟩
theorem odiv : 32 ∣ S32x128.size 0 := ⟨1, rfl⟩
abbrev lrow (w : Fin 32) : Rect S2048 := Rect.part (s := S2048) (a₀ := 0) ldiv w
abbrev orow (w : Fin 32) : Rect S32x128 := Rect.part (s := S32x128) (a₀ := 0) odiv w
abbrev lRowSet (w : Fin 32) : Finset S2048.Idx := ((lV).view.slice (lrow w)).set
abbrev oRowSet (w : Fin 32) : Finset S32x128.Idx := ((oV).view.slice (orow w)).set

/-- Task `w`'s share of the flat logits. -/
abbrev xq (w : Fin 32) : PosShare TreeShare := pieceOf fullShare 32 (by decide) w

variable [FloatOps F] [Named F]

/-! ## What the tasks are given, and what they bring back -/

variable (lb : (d : Dev nD) → Buf (Elt F) (lLoc d)) (xf : (d : Dev nD) → Buf (Elt F) (xLoc d)) (o₀ : (d : Dev nD) → Buf (Elt F) (oLoc d))

abbrev lRowPts (d : Dev nD) (w : Fin 32) : sProp 𝕄 := lLoc d ↦[lRowSet w]{fullShare} lb d
abbrev xShPts (d : Dev nD) (w : Fin 32) : sProp 𝕄 := xLoc d ↦{xq w} xf d
abbrev oRowPts (d : Dev nD) (w : Fin 32) (f : Buf (Elt F) (oLoc d)) : sProp 𝕄 := oLoc d ↦[oRowSet w]{fullShare} f

/-- What task `w` is given: its 64 labels, its share of the flat logits, its row of the result. -/
def given (d : Dev nD) (w : Fin 32) : sProp 𝕄 := iprop(lRowPts lb d w ∗ xShPts xf d w ∗ oRowPts d w (o₀ d))

/-- Every label is a column of the logits. -/
def LabelsOK : Prop := ∀ (d : Dev nD) (j : S2048.Idx), (lb d j).toNat < 32000

section Tile

variable (d : Dev nD) (L : grid0.Coords)

abbrev kc (L : grid0.Coords) : Fin τ.nSC := (L 0).castLE hcore0
abbrev ks (L : grid0.Coords) : Fin τ.nSub := (L 1).castLE hsub0
/-- The number of the task at grid coordinates `L`, as one of the thirty-two. -/
abbrev wL (L : grid0.Coords) : Fin 32 := ⟨wN L, wN_lt L⟩

abbrev lrowK (L : grid0.Coords) : Rect S2048 := Rect.unit (s := S2048) (k0_off1 L) S64.size (k0_off1_inb L)
abbrev orowK (L : grid0.Coords) : Rect S32x128 := Rect.unit (s := S32x128) (k0_off2 L) S1x128.size (k0_off2_inb L)
/-- The task's labels, its row of the result, and all the logits, as the task addresses them. -/
abbrev lRowK (L : grid0.Coords) : Memref sig .scVector .hbm S64 .i32 := (lV).slice (lrowK L) (fun _ => rfl)
abbrev oRowK (L : grid0.Coords) : Memref sig .scVector .hbm S128 .f32 := ((oV).slice (orowK L) (fun _ => rfl)).squeeze S128 squeezes_S1x128_S128
abbrev xAllK : Memref sig .scVector .hbm S65536000 .f32 := (xV).slice (Rect.unit (s := S65536000) ![0] S65536000.size inb_S65536000_S65536000_0) (fun _ => rfl)

omit [FloatOps F] [Named F] in
theorem lrowK_eq : lrowK L = lrow (wL L) := by
  unfold lrowK lrow Rect.part Rect.block
  congr 1 <;> funext a
  · rw [k0_off1_eq]
    match a with
    | 0 => simp [Shape.partIx, Shape.partSize, wN]; omega
  · match a with
    | 0 => simp [Shape.partSize]
omit [FloatOps F] [Named F] in
theorem orowK_eq : orowK L = orow (wL L) := by
  unfold orowK orow Rect.part Rect.block
  congr 1 <;> funext a
  · rw [k0_off2_eq]
    match a with
    | 0 => simp [Shape.partIx, Shape.partSize, wN]
    | 1 => simp [Shape.partIx, Shape.partSize]
  · match a with
    | 0 => simp [Shape.partSize]
    | 1 => simp [Shape.partSize]

omit [FloatOps F] [Named F] in
theorem set_lRowK : (lRowK L).view.set = lRowSet (wL L) := by
  show ((lV).view.slice (lrowK L)).set = ((lV).view.slice (lrow (wL L))).set
  exact lrowK_eq L ▸ rfl
omit [FloatOps F] [Named F] in
theorem set_oRowK : (oRowK L).view.set = oRowSet (wL L) := by
  show (((oV).view.slice (orowK L)).reshape S128 squeezes_S1x128_S128.numel_eq).set = ((oV).view.slice (orow (wL L))).set
  rw [View.set_reshape]
  exact orowK_eq L ▸ rfl

omit [FloatOps F] [Named F] in
theorem pts_lRowK (f : Buf (Elt F) (lLoc d)) :
    ((lRowK L).view.loc (V d (kc L) (ks L)) ↦[(lRowK L).view.set]{fullShare} f : sProp 𝕄) = lLoc d ↦[lRowSet (wL L)]{fullShare} f := by
  rw [set_lRowK]
omit [FloatOps F] [Named F] in
theorem pts_oRowK (f : Buf (Elt F) (oLoc d)) :
    ((oRowK L).view.loc (V d (kc L) (ks L)) ↦[(oRowK L).view.set]{fullShare} f : sProp 𝕄) = oLoc d ↦[oRowSet (wL L)]{fullShare} f := by
  rw [set_oRowK]

abbrev cGcell (d : Dev nD) (c : Fin τ.nSC) (i : Fin τ.nSub) : GSem nD τ sig := (V d c i, .dma cc0_scratch6.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] [Named F] in
/-- The three semaphores the task waits on are among the subcore's own. -/
theorem ownSems0_V :
    (ownSems0 (V d (kc L) (ks L)) : sProp 𝕄)
      = iprop(semVal (cAcell d (kc L) (ks L)) 0 ∗ semVal (cBcell d (kc L) (ks L)) 0 ∗ semVal (cGcell d (kc L) (ks L)) 0
          ∗ bigSep ((((ownCells (V d (kc L) (ks L))).erase (cAcell d (kc L) (ks L))).erase (cBcell d (kc L) (ks L))).erase (cGcell d (kc L) (ks L))) fun g => semVal g 0) := by
  unfold SparseCore.Cfg.ownSems0
  rw [SparseCore.bigSep_erase' ((mem_ownCells (g := cAcell d (kc L) (ks L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (kc L) (ks L))).mpr ⟨rfl, by
      show (SemLoc.dma cc0_scoped1.sem : SemLoc sig).isScoped .scVector = true; decide⟩⟩),
    SparseCore.bigSep_erase' (Finset.mem_erase.mpr ⟨by simp [cBcell, cGcell]; decide, Finset.mem_erase.mpr ⟨by simp [cAcell, cGcell]; decide,
      (mem_ownCells (g := cGcell d (kc L) (ks L))).mpr ⟨rfl, by show (SemLoc.dma cc0_scratch6.sem : SemLoc sig).isScoped .scVector = true; decide⟩⟩⟩)]

abbrev dref (L : grid0.Coords) (b : Ref sig .scVector) : DevRef τ sig := (Proc.scVector (kc L) (ks L)).devRef b

omit [FloatOps F] [Named F] in
theorem dref_ne {b b' : Ref sig .scVector} (h : b ≠ b') : dref L b ≠ dref L b' := fun e => absurd (Proc.devRef_injective _ e) h

omit [FloatOps F] [Named F] in
/-- The six scratch buffers are among the subcore's own: they are them, at some contents, and the rest. -/
theorem ownBufs_V :
    (ownBufs (V d (kc L) (ks L)) : sProp 𝕄)
      = iprop((∃ f, (V d (kc L) (ks L)).loc cc0_scratch0 ↦{fullShare} f) ∗ (∃ f, (V d (kc L) (ks L)).loc cc0_scratch1 ↦{fullShare} f)
          ∗ (∃ f, (V d (kc L) (ks L)).loc cc0_scratch2 ↦{fullShare} f) ∗ (∃ f, (V d (kc L) (ks L)).loc cc0_scratch3 ↦{fullShare} f)
          ∗ (∃ f, (V d (kc L) (ks L)).loc cc0_scratch4 ↦{fullShare} f) ∗ (∃ f, (V d (kc L) (ks L)).loc cc0_scratch5 ↦{fullShare} f)
          ∗ bigSep (((((((ownRefs (τ := τ) (.scVector (kc L) (ks L))).erase (dref L cc0_scratch0)).erase (dref L cc0_scratch1)).erase (dref L cc0_scratch2)).erase
              (dref L cc0_scratch3)).erase (dref L cc0_scratch4)).erase (dref L cc0_scratch5))
              fun b => iprop(∃ f, ((d, b) : Loc nD τ sig) ↦{fullShare} f)) := by
  have own := fun b h => SparseCore.Cfg.mem_ownRefs_of_owner (p := (Proc.scVector (kc L) (ks L) : Proc τ)) (b := dref L b) h
  unfold SparseCore.Cfg.ownBufs
  refine (SparseCore.bigSep_erase' (own cc0_scratch0 rfl)).trans ?_
  rw [SparseCore.bigSep_erase' (Finset.mem_erase.mpr ⟨dref_ne L (show (cc0_scratch1 : Ref sig .scVector) ≠ cc0_scratch0 by decide), own cc0_scratch1 rfl⟩),
    SparseCore.bigSep_erase' (Finset.mem_erase.mpr ⟨dref_ne L (show (cc0_scratch2 : Ref sig .scVector) ≠ cc0_scratch1 by decide),
      Finset.mem_erase.mpr ⟨dref_ne L (show (cc0_scratch2 : Ref sig .scVector) ≠ cc0_scratch0 by decide), own cc0_scratch2 rfl⟩⟩),
    SparseCore.bigSep_erase' (Finset.mem_erase.mpr ⟨dref_ne L (show (cc0_scratch3 : Ref sig .scVector) ≠ cc0_scratch2 by decide),
      Finset.mem_erase.mpr ⟨dref_ne L (show (cc0_scratch3 : Ref sig .scVector) ≠ cc0_scratch1 by decide),
      Finset.mem_erase.mpr ⟨dref_ne L (show (cc0_scratch3 : Ref sig .scVector) ≠ cc0_scratch0 by decide), own cc0_scratch3 rfl⟩⟩⟩),
    SparseCore.bigSep_erase' (Finset.mem_erase.mpr ⟨dref_ne L (show (cc0_scratch4 : Ref sig .scVector) ≠ cc0_scratch3 by decide),
      Finset.mem_erase.mpr ⟨dref_ne L (show (cc0_scratch4 : Ref sig .scVector) ≠ cc0_scratch2 by decide),
      Finset.mem_erase.mpr ⟨dref_ne L (show (cc0_scratch4 : Ref sig .scVector) ≠ cc0_scratch1 by decide),
      Finset.mem_erase.mpr ⟨dref_ne L (show (cc0_scratch4 : Ref sig .scVector) ≠ cc0_scratch0 by decide), own cc0_scratch4 rfl⟩⟩⟩⟩),
    SparseCore.bigSep_erase' (Finset.mem_erase.mpr ⟨dref_ne L (show (cc0_scratch5 : Ref sig .scVector) ≠ cc0_scratch4 by decide),
      Finset.mem_erase.mpr ⟨dref_ne L (show (cc0_scratch5 : Ref sig .scVector) ≠ cc0_scratch3 by decide),
      Finset.mem_erase.mpr ⟨dref_ne L (show (cc0_scratch5 : Ref sig .scVector) ≠ cc0_scratch2 by decide),
      Finset.mem_erase.mpr ⟨dref_ne L (show (cc0_scratch5 : Ref sig .scVector) ≠ cc0_scratch1 by decide),
      Finset.mem_erase.mpr ⟨dref_ne L (show (cc0_scratch5 : Ref sig .scVector) ≠ cc0_scratch0 by decide), own cc0_scratch5 rfl⟩⟩⟩⟩⟩)]

omit [FloatOps F] [Named F] in
/-- The labels the task reads are its 64 of all the labels. -/
theorem read_lRowK : (lRowK L).view.read (Elt F) (lb d) = labsOf (lb d) (wL L) := by
  funext j
  rw [show (lRowK L).view.read (Elt F) (lb d) j = lb d ((lRowK L).view.emb j) from (View.read_apply _ _).trans (cast_eq _ _)]
  unfold labsOf
  refine congrArg (lb d) (idx1_ext rfl ?_)
  show k0_off1 L 0 + 1 * (j 0).val = 64 * wN L + (j 0).val
  rw [k0_off1_eq]; simp [wN]; omega

omit [FloatOps F] [Named F] in
/-- The first list's words are in range. -/
theorem hinT (hlab : LabelsOK (F := F) lb) : ∀ x, ((bV).view.read (Elt F) (idxT (wN L) (labsOf (lb d) (wL L))) x).toNat < 65536000 := by
  intro x
  simp only [Memref.view_whole, View.read_whole]
  exact (idxT_toNat (wN_lt L) _ x (hlab d _)).2
omit [FloatOps F] [Named F] in
/-- The second list's words are in range. -/
theorem hin0 : ∀ x, ((cV).view.read (Elt F) (idx0 (wN L)) x).toNat < 65536000 := by
  intro x
  simp only [Memref.view_whole, View.read_whole]
  exact (idx0_toNat (wN_lt L) x).2

/-- A list of 64 has rows. -/
theorem rows64_pos : 0 < S64.size gathers_S65536000_S64.axis' := by decide

/-- What the rows of the first gather deliver, and those of the second. -/
def rowsT (hlab : LabelsOK (F := F) lb) (ft : Buf (Elt F) ((V d (kc L) (ks L)).loc cc0_scratch3)) : Fin 64 → sProp 𝕄 :=
  GatherBatch.rowBack (V d (kc L) (ks L)) xAllK tV gathers_S65536000_S64 bV rfl (xq (wL L)).left fullShare (xf d) ft
    (idxT (wN L) (labsOf (lb d) (wL L))) (hinT lb d L hlab) rows64_pos
def rows0 (fz : Buf (Elt F) ((V d (kc L) (ks L)).loc cc0_scratch4)) : Fin 64 → sProp 𝕄 :=
  GatherBatch.rowBack (V d (kc L) (ks L)) xAllK zV gathers_S65536000_S64 cV rfl (xq (wL L)).right fullShare (xf d) fz
    (idx0 (wN L)) (hin0 L) rows64_pos
instance (hlab : LabelsOK (F := F) lb) (ft : Buf (Elt F) ((V d (kc L) (ks L)).loc cc0_scratch3)) (j : Fin 64) :
    Storable (upEmb : UEmb _ 𝕄) (rowsT lb xf d L hlab ft j) := by
  unfold rowsT; exact GatherBatch.instStorableRowBack _ _ _ _ _ _ _ _ _ _ _ _ _ _
instance (fz : Buf (Elt F) ((V d (kc L) (ks L)).loc cc0_scratch4)) (j : Fin 64) :
    Storable (upEmb : UEmb _ 𝕄) (rows0 xf d L fz j) := by
  unfold rows0; exact GatherBatch.instStorableRowBack _ _ _ _ _ _ _ _ _ _ _ _ _ _

/-- One row's credit. -/
theorem rowCredit : ∀ b : Memref sig .scVector .vmem S64 .f32, (b = tV ∨ b = zV) → ∀ j,
    (b.slice (S64.rowRect gathers_S65536000_S64.axis' j) (S64.stride_rowRect gathers_S65536000_S64.axis' j)).view.dmaCredit = 32 := by
  rintro b (rfl | rfl) <;> decide

/-- A whole list's credit: 64 rows'. -/
theorem wholeCredit : ∀ b : Memref sig .scVector .vmem S64 .f32, (b = tV ∨ b = zV) → b.view.dmaCredit = 64 * 32 := by
  rintro b (rfl | rfl) <;> decide

omit [FloatOps F] [Named F] in
/-- The row a list of 64 names for its entry is the list's word there. -/
theorem rows_list (u : S64.Idx → BitVec 32) (h : ∀ x, (u x).toNat < 65536000) (j : S64.Idx) :
    (SparseCore.rows (F := F) (si := S64) (o := S64.size gathers_S65536000_S64.axis') (z := S65536000.size gathers_S65536000_S64.axis) u rfl h (j gathers_S65536000_S64.axis')).val = (u j).toNat := by
  show (u (S64.rowMajor.symm _)).toNat = (u j).toNat
  refine congrArg (fun j => (u j).toNat) ((Equiv.symm_apply_eq _).mpr (Fin.ext ?_))
  rw [Shape.rowMajor_val_one]
  rfl

omit [FloatOps F] [Named F] in
/-- Where a gather through a list of 64 reads: the word of the list. -/
theorem gath_at (u : S64.Idx → BitVec 32) (h : ∀ x, (u x).toNat < 65536000) (j : S64.Idx) :
    (((xAllK).view.emb (gathers_S65536000_S64.idx (SparseCore.rows (F := F) (si := S64) (o := S64.size gathers_S65536000_S64.axis')
      (z := S65536000.size gathers_S65536000_S64.axis) u rfl h) j) : S65536000.Idx) 0).val = (u j).toNat := by
  refine Eq.trans ?_ ((congrArg Fin.val (Shape.Gathers.idx_axis gathers_S65536000_S64 (SparseCore.rows (F := F) (si := S64) (o := S64.size gathers_S65536000_S64.axis')
      (z := S65536000.size gathers_S65536000_S64.axis) u rfl h) j)).trans (rows_list (F := F) u h j))
  show 0 + 1 * _ = _
  rw [Nat.zero_add, Nat.one_mul]
  rfl

omit [FloatOps F] [Named F] in
/-- What the first gather brings: each row's logit at its label. -/
theorem gathT (hlab : LabelsOK (F := F) lb) :
    SparseCore.gatherPayload gathers_S65536000_S64 ((xAllK).view.read (Elt F) (xf d))
        (SparseCore.rows ((bV).view.read (Elt F) (idxT (wN L) (labsOf (lb d) (wL L)))) rfl (hinT lb d L hlab))
      = xtOf (xf d) (lb d) (wL L) := by
  funext j
  unfold SparseCore.gatherPayload xtOf
  rw [show ∀ k, (xAllK).view.read (Elt F) (xf d) k = xf d ((xAllK).view.emb k) from fun k => (View.read_apply _ _).trans (cast_eq _ _)]
  refine congrArg (xf d) (idx1_ext rfl ?_)
  have h1 := gath_at (F := F) (idxT (wN L) (labsOf (lb d) (wL L))) (hinT lb d L hlab) j
  obtain ⟨h2, h3⟩ := idxT_toNat (wN_lt L) (labsOf (lb d) (wL L)) j (hlab d _)
  refine h1.trans (h2.trans ?_)
  show _ = _ % 65536000
  rw [Nat.mod_eq_of_lt (h2 ▸ h3)]
omit [FloatOps F] [Named F] in
/-- What the second gather brings: each row's logit at column 0. -/
theorem gath0 :
    SparseCore.gatherPayload gathers_S65536000_S64 ((xAllK).view.read (Elt F) (xf d))
        (SparseCore.rows ((cV).view.read (Elt F) (idx0 (wN L))) rfl (hin0 L))
      = x0Of (xf d) (wL L) := by
  funext j
  unfold SparseCore.gatherPayload x0Of
  rw [show ∀ k, (xAllK).view.read (Elt F) (xf d) k = xf d ((xAllK).view.emb k) from fun k => (View.read_apply _ _).trans (cast_eq _ _)]
  refine congrArg (xf d) (idx1_ext rfl ?_)
  have h1 := gath_at (F := F) (idx0 (wN L)) (hin0 (F := F) L) j
  obtain ⟨h2, h3⟩ := idx0_toNat (wN_lt L) j
  refine h1.trans (h2.trans ?_)
  show _ = _ % 65536000
  rw [Nat.mod_eq_of_lt (h2 ▸ h3)]

/-- The first gather's rows, all delivered: the logits at the labels, the share of the logits and the list back. -/
theorem rowsT_join (hlab : LabelsOK (F := F) lb) (ft : Buf (Elt F) ((V d (kc L) (ks L)).loc cc0_scratch3)) :
    (bigSep Finset.univ (rowsT lb xf d L hlab ft) : sProp 𝕄)
      ⊢ iprop(((tV).view.loc (V d (kc L) (ks L)) ↦{fullShare} (tV).view.write (Elt F) ft (xtOf (xf d) (lb d) (wL L)) Finset.univ)
        ∗ ((xAllK).view.loc (V d (kc L) (ks L)) ↦[(xAllK).view.set]{(xq (wL L)).left} xf d)
        ∗ ((bV).view.loc (V d (kc L) (ks L)) ↦{fullShare} idxT (wN L) (labsOf (lb d) (wL L)))) := by
  rw [← gathT lb xf d L hlab]
  have h := GatherBatch.rowsBack_join (Ix := HIx 1) (Name := ℕ) (U := UU) (Lvl := ℕ) (V d (kc L) (ks L)) xAllK tV gathers_S65536000_S64 bV rfl (xq (wL L)).left fullShare (xf d) ft
    (idxT (wN L) (labsOf (lb d) (wL L))) (hinT lb d L hlab) rows64_pos
  rw [show (tV).view.set = Finset.univ from View.set_whole _, show (bV).view.set = Finset.univ from View.set_whole _] at h
  exact h
/-- The second gather's, likewise. -/
theorem rows0_join (fz : Buf (Elt F) ((V d (kc L) (ks L)).loc cc0_scratch4)) :
    (bigSep Finset.univ (rows0 xf d L fz) : sProp 𝕄)
      ⊢ iprop(((zV).view.loc (V d (kc L) (ks L)) ↦{fullShare} (zV).view.write (Elt F) fz (x0Of (xf d) (wL L)) Finset.univ)
        ∗ ((xAllK).view.loc (V d (kc L) (ks L)) ↦[(xAllK).view.set]{(xq (wL L)).right} xf d)
        ∗ ((cV).view.loc (V d (kc L) (ks L)) ↦{fullShare} idx0 (wN L))) := by
  rw [← gath0 xf d L]
  have h := GatherBatch.rowsBack_join (Ix := HIx 1) (Name := ℕ) (U := UU) (Lvl := ℕ) (V d (kc L) (ks L)) xAllK zV gathers_S65536000_S64 cV rfl (xq (wL L)).right fullShare (xf d) fz
    (idx0 (wN L)) (hin0 L) rows64_pos
  rw [show (zV).view.set = Finset.univ from View.set_whole _, show (cV).view.set = Finset.univ from View.set_whole _] at h
  exact h

/-- The four stores of the first list leave it whole. -/
theorem listT_eq (f : Buf (Elt F) ((V d (kc L) (ks L)).loc cc0_scratch1)) (lab : S64.Idx → BitVec 32) :
    (bV).view.writes (Elt F) f
      [⟨Rect.unit ![48] S16.size inb_S64_S16_48, k0_pay12 (F := F) (base L) (grp lab 48 (by decide))⟩,
        ⟨Rect.unit ![32] S16.size inb_S64_S16_32, k0_pay9 (F := F) (base L) (grp lab 32 (by decide))⟩,
        ⟨Rect.unit ![16] S16.size inb_S64_S16_16, k0_pay5 (F := F) L (grp lab 16 (by decide))⟩,
        ⟨Rect.unit ![0] S16.size inb_S64_S16_0, k0_pay2 (F := F) L (grp lab 0 (by decide))⟩] = idxT (wN L) lab := by
  funext y
  have e : ∀ g, (bV).view.read (Elt F) g = g := fun g => by simp only [Memref.view_whole, View.read_whole]
  refine (congrFun (e _) y).symm.trans ?_
  refine View.read_writes_apply_of_pieces (bV).view f (idxT (wN L) lab) _ ?_ y ?_
  swap; · exact View.cover_of_tiled _ ![16] rfl y
  have hg : ∀ (o : ℕ) (ho : o + 16 ≤ 64) (x : S16.Idx) (y : S64.Idx), (y 0).val = o + (x 0).val → grp lab o ho x = lab y := fun o ho x y h =>
    congrArg lab (idx1_ext rfl h.symm)
  have e1 : ∀ (o : ℕ) (inb : ∀ a, (![o] : Fin 1 → ℕ) a + S16.size a ≤ S64.size a) (x : S16.Idx),
      (((Rect.unit (s := S64) ![o] S16.size inb).emb x : S64.Idx) 0).val = o + (x 0).val := fun o inb x => by
    show o + 1 * (x 0).val = o + (x 0).val; omega
  intro p hp
  simp only [List.mem_cons, List.not_mem_nil, _root_.or_false] at hp
  rcases hp with rfl | rfl | rfl | rfl
  · exact fun x => pay12_eq L _ lab x _ (hg 48 _ x _ (e1 48 inb_S64_S16_48 x)) (e1 48 inb_S64_S16_48 x)
  · exact fun x => pay9_eq L _ lab x _ (hg 32 _ x _ (e1 32 inb_S64_S16_32 x)) (e1 32 inb_S64_S16_32 x)
  · exact fun x => pay5_eq L _ lab x _ (hg 16 _ x _ (e1 16 inb_S64_S16_16 x)) (e1 16 inb_S64_S16_16 x)
  · exact fun x => pay2_eq L _ lab x _ (hg 0 _ x _ (e1 0 inb_S64_S16_0 x)) (e1 0 inb_S64_S16_0 x)

omit [FloatOps F] [Named F] in
/-- The four stores of the second list leave it whole. -/
theorem list0_eq (f : Buf (Elt F) ((V d (kc L) (ks L)).loc cc0_scratch2)) :
    (cV).view.writes (Elt F) f
      [⟨Rect.unit ![48] S16.size inb_S64_S16_48, k0_pay13 (base L)⟩, ⟨Rect.unit ![32] S16.size inb_S64_S16_32, k0_pay10 (base L)⟩,
        ⟨Rect.unit ![16] S16.size inb_S64_S16_16, k0_pay7 (k0_pay6 L)⟩, ⟨Rect.unit ![0] S16.size inb_S64_S16_0, k0_pay3 L⟩] = idx0 (wN L) := by
  funext y
  have e : ∀ g, (cV).view.read (Elt F) g = g := fun g => by simp only [Memref.view_whole, View.read_whole]
  refine (congrFun (e _) y).symm.trans ?_
  refine View.read_writes_apply_of_pieces (cV).view f (idx0 (wN L)) _ ?_ y ?_
  swap; · exact View.cover_of_tiled _ ![16] rfl y
  have e1 : ∀ (o : ℕ) (inb : ∀ a, (![o] : Fin 1 → ℕ) a + S16.size a ≤ S64.size a) (x : S16.Idx),
      (((Rect.unit (s := S64) ![o] S16.size inb).emb x : S64.Idx) 0).val = o + (x 0).val := fun o inb x => by
    show o + 1 * (x 0).val = o + (x 0).val; omega
  intro p hp
  simp only [List.mem_cons, List.not_mem_nil, _root_.or_false] at hp
  rcases hp with rfl | rfl | rfl | rfl
  · exact fun x => pay13_eq L x _ (e1 48 inb_S64_S16_48 x)
  · exact fun x => pay10_eq L x _ (e1 32 inb_S64_S16_32 x)
  · exact fun x => pay7_eq L x _ (e1 16 inb_S64_S16_16 x)
  · exact fun x => pay3_eq L x _ (e1 0 inb_S64_S16_0 x)

omit [FloatOps F] [Named F] in
/-- Sixteen lanes loaded from a list of 64 just written whole are the list's sixteen from there. -/
theorem ld_grp {κ : Kind} {sp : Space} {e : EltTy} (v : View sig κ sp S64 e) (f : v.ty.Contents (Elt F)) (X : S64.Idx → Elt F e)
    (o : ℕ) (ho : o + 16 ≤ 64) (inb : ∀ a, (![o] : Fin 1 → ℕ) a + S16.size a ≤ S64.size a) :
    v.readAt (Elt F) (Rect.unit (s := S64) ![o] S16.size inb).toLoadRect (v.write (Elt F) f X Finset.univ) = grp X o ho := by
  show (fun x : S16.Idx => v.read (Elt F) (v.write (Elt F) f X Finset.univ) ((Rect.unit (s := S64) ![o] S16.size inb).emb x)) = _
  rw [View.read_write_univ]
  funext x
  unfold grp
  refine congrArg X (idx1_ext rfl ?_)
  show o + 1 * (x 0).val = o + (x 0).val
  omega

/-- Reading the row buffer back: the last store to lanes 0 to 15, zero in the others. -/
theorem read_row (f : Buf (Elt F) ((V d (kc L) (ks L)).loc cc0_scratch5)) (p p' z : S16.Idx → F .f32) (hz : z = fun _ => zeroF) (j : S128.Idx) :
    (rV).view.read (Elt F) ((rV).view.writes (Elt F) f
      [⟨Rect.unit ![0] S16.size inb_S128_S16_0, p⟩, ⟨Rect.unit ![112] S16.size inb_S128_S16_112, z⟩, ⟨Rect.unit ![96] S16.size inb_S128_S16_96, z⟩,
        ⟨Rect.unit ![80] S16.size inb_S128_S16_80, z⟩, ⟨Rect.unit ![64] S16.size inb_S128_S16_64, z⟩, ⟨Rect.unit ![48] S16.size inb_S128_S16_48, z⟩,
        ⟨Rect.unit ![32] S16.size inb_S128_S16_32, z⟩, ⟨Rect.unit ![16] S16.size inb_S128_S16_16, z⟩, ⟨Rect.unit ![0] S16.size inb_S128_S16_0, p'⟩]) j
      = if h : (j 0).val < 16 then p (ix16 (j 0).val h) else zeroF := by
  have hj : (j 0).val < 128 := (j 0).isLt
  split
  · rename_i h
    exact View.read_writes_cons_hit_of_coords (rV).view f (Rect.unit (s := S128) ![0] S16.size inb_S128_S16_0) p _ (ix16 (j 0).val h) j
      fun | 0 => (by show (j 0).val = 0 + 1 * (j 0).val; omega)
  · rename_i h
    subst hz
    rw [View.read_writes_cons_miss_of_axis _ _ _ _ j 0 0 16 rfl rfl rfl (.inr (by omega))]
    have hG := View.read_writes_apply_of_pieces (rV).view f (fun j : S128.Idx => if h : (j 0).val < 16 then p' (ix16 (j 0).val h) else zeroF)
      [⟨Rect.unit ![112] S16.size inb_S128_S16_112, fun _ => zeroF⟩, ⟨Rect.unit ![96] S16.size inb_S128_S16_96, fun _ => zeroF⟩,
        ⟨Rect.unit ![80] S16.size inb_S128_S16_80, fun _ => zeroF⟩, ⟨Rect.unit ![64] S16.size inb_S128_S16_64, fun _ => zeroF⟩, ⟨Rect.unit ![48] S16.size inb_S128_S16_48, fun _ => zeroF⟩,
        ⟨Rect.unit ![32] S16.size inb_S128_S16_32, fun _ => zeroF⟩, ⟨Rect.unit ![16] S16.size inb_S128_S16_16, fun _ => zeroF⟩, ⟨Rect.unit ![0] S16.size inb_S128_S16_0, p'⟩]
      ?_ j ?_
    · exact hG.trans (dif_neg h)
    · have e1 : ∀ (o : ℕ) (inb : ∀ a, (![o] : Fin 1 → ℕ) a + S16.size a ≤ S128.size a) (x : S16.Idx),
          (((Rect.unit (s := S128) ![o] S16.size inb).emb x : S128.Idx) 0).val = o + (x 0).val := fun o inb x => by
        show o + 1 * (x 0).val = o + (x 0).val; omega
      have ez : ∀ (o : ℕ) (inb : ∀ a, (![o] : Fin 1 → ℕ) a + S16.size a ≤ S128.size a) (x : S16.Idx), 16 ≤ o →
          (zeroF : F .f32) = (fun j : S128.Idx => if h : (j 0).val < 16 then p' (ix16 (j 0).val h) else zeroF) ((Rect.unit (s := S128) ![o] S16.size inb).emb x) :=
        fun o inb x ho => by
          have := e1 o inb x
          show _ = dite _ _ _
          rw [dif_neg (by omega)]
      intro q hq
      simp only [List.mem_cons, List.not_mem_nil, _root_.or_false] at hq
      rcases hq with rfl | rfl | rfl | rfl | rfl | rfl | rfl | rfl
      · exact fun x => ez 112 inb_S128_S16_112 x (by decide)
      · exact fun x => ez 96 inb_S128_S16_96 x (by decide)
      · exact fun x => ez 80 inb_S128_S16_80 x (by decide)
      · exact fun x => ez 64 inb_S128_S16_64 x (by decide)
      · exact fun x => ez 48 inb_S128_S16_48 x (by decide)
      · exact fun x => ez 32 inb_S128_S16_32 x (by decide)
      · exact fun x => ez 16 inb_S128_S16_16 x (by decide)
      · intro x
        have hx : (x 0).val < 16 := (x 0).isLt
        have := e1 0 inb_S128_S16_0 x
        have hlt : (((Rect.unit (s := S128) ![0] S16.size inb_S128_S16_0).emb x : S128.Idx) 0).val < 16 := by rw [this]; omega
        show p' x = dite ((((Rect.unit (s := S128) ![0] S16.size inb_S128_S16_0).emb x : S128.Idx) 0).val < 16)
          (fun h => p' (ix16 (((Rect.unit (s := S128) ![0] S16.size inb_S128_S16_0).emb x : S128.Idx) 0).val h)) (fun _ => zeroF)
        rw [dif_pos hlt]
        exact congrArg p' (idx1_ext (i := x) (j := ix16 _ hlt) rfl (by rw [Nat.zero_add] at this; exact this.symm))
    · exact View.cover_of_tiled _ ![16] rfl j

omit [FloatOps F] [Named F] in
/-- Element `x` of the row the task writes is element `(w, x)` of the array of rows. -/
theorem emb_oRowK (x : S128.Idx) : ((((oRowK L).view.emb x : S32x128.Idx) 0).val = wN L) ∧ (((oRowK L).view.emb x : S32x128.Idx) 1).val = (x 0).val := by
  have he : Shape.reshapeEquiv squeezes_S1x128_S128.numel_eq x = (fun | 0 => ⟨0, Nat.one_pos⟩ | 1 => x 0 : S1x128.Idx) :=
    Shape.reshapeEquiv_eq_of_rowMajor _ (by
      rw [Shape.rowMajor_val_two, Shape.rowMajor_val_one]
      show 0 * _ + (x 0).val = (x 0).val; omega)
  have h2 : (oRowK L).view.emb x = (orowK L).emb (fun | 0 => ⟨0, Nat.one_pos⟩ | 1 => x 0 : S1x128.Idx) := by
    rw [← he]; rfl
  rw [h2]
  constructor
  · show k0_off2 L 0 + 1 * 0 = wN L
    rw [k0_off2_eq]; simp [wN]
  · show k0_off2 L 1 + 1 * (x 0).val = (x 0).val
    rw [k0_off2_eq]; simp

set_option maxHeartbeats 4000000 in
/-- The task on vector subcore `(L 0, L 1)` of device `d`. -/
theorem tile_body (hF : (K (F := F)).Facts) (hlab : LabelsOK lb) (O : CellTallies nD τ sig (HIx 1)) (W : Waits sig (HIx 1)) (hO : ∀ g, O g none = 0) :
    iprop(levAts (K (F := F)).L (K (F := F)).lev ∗ emp
        ∗ (lRowPts lb d (wL L) ∗ xShPts xf d (wL L) ∗ oRowPts d (wL L) (o₀ d))
        ∗ scopedBufs (V d (kc L) (ks L)) ∗ scopedSems0 (V d (kc L) (ks L)) ∗ owes (V d (kc L) (ks L)) O W)
      ⊢ wp frame (wpE (defs₀ (F := F)) 𝒱₀ (V d (kc L) (ks L)) none) Set.univ
          (cc0__sc_gather_body L xV (Memref.isWhole_whole _) lV (Memref.isWhole_whole _) oV (Memref.isWhole_whole _)
            aV (Memref.isWhole_whole _) bV (Memref.isWhole_whole _) cV (Memref.isWhole_whole _)
            tV (Memref.isWhole_whole _) zV (Memref.isWhole_whole _) rV (Memref.isWhole_whole _) cc0_scratch6 cc0_scoped0 cc0_scoped1)
          fun _ => iprop((lRowPts lb d (wL L) ∗ xShPts xf d (wL L) ∗ oRowPts d (wL L) (outVal (xf d) (lb d)))
            ∗ scopedBufs (V d (kc L) (ks L)) ∗ scopedSems0 (V d (kc L) (ks L))
            ∗ ∃ W', ⌜∀ p ∈ W', p ∈ W ∨ p.2 = none⌝ ∗ owes (V d (kc L) (ks L)) O W') := by
  simp only [cc0__sc_gather_body_eq_skeleton]; unfold cc0__sc_gather_body_skel
  simp only [k0_part1_eq_skeleton, k0_part2_eq_skeleton, k0_part3_eq_skeleton, k0_part4_eq_skeleton, k0_part5_eq_skeleton]
  rw [(K (F := F)).scopedBufs_V hF d (kc L) (ks L), SparseCore.Cfg.scopedSems0_V (Val := Elt F) d (kc L) (ks L), ownSems0_V, ownBufs_V]
  iintro ⟨#Hlv, -, ⟨Hl, Hx, Ho⟩, ⟨⟨%fa, Ha⟩, ⟨%fb, Hb⟩, ⟨%fc, Hc⟩, ⟨%ft, Ht⟩, ⟨%fz, Hz⟩, ⟨%fr, Hr⟩, Hbufs⟩, ⟨HsemA, HsemB, HsemG, Hsems⟩, HO⟩
  ihave Hmw := (show levAts (K (F := F)).L (K (F := F)).lev ⊢ Transfers.MayWaits (V d (kc L) (ks L)) (default : HIx 1) O from
    (K (F := F)).mayWaits_none (thr := V d (kc L) (ks L)) hO) $$ Hlv
  ihave Hl' := (Entails.of_eq (pts_lRowK (F := F) d L _).symm) $$ Hl
  ihave Ho' := (Entails.of_eq (pts_oRowK (F := F) d L _).symm) $$ Ho
  ihave Hx' := (show (xLoc d ↦{xq (wL L)} xf d : sProp 𝕄) ⊢ (xV).view.loc (V d (kc L) (ks L)) ↦{xq (wL L)} xf d from .rfl) $$ Hx
  ihave Ha' := (show ((V d (kc L) (ks L)).loc cc0_scratch0 ↦{fullShare} fa : sProp 𝕄) ⊢ (aV).view.loc (V d (kc L) (ks L)) ↦{fullShare} fa from .rfl) $$ Ha
  ihave Hb' := (show ((V d (kc L) (ks L)).loc cc0_scratch1 ↦{fullShare} fb : sProp 𝕄) ⊢ (bV).view.loc (V d (kc L) (ks L)) ↦{fullShare} fb from .rfl) $$ Hb
  ihave Hc' := (show ((V d (kc L) (ks L)).loc cc0_scratch2 ↦{fullShare} fc : sProp 𝕄) ⊢ (cV).view.loc (V d (kc L) (ks L)) ↦{fullShare} fc from .rfl) $$ Hc
  ihave Ht' := (show ((V d (kc L) (ks L)).loc cc0_scratch3 ↦{fullShare} ft : sProp 𝕄) ⊢ (tV).view.loc (V d (kc L) (ks L)) ↦{fullShare} ft from .rfl) $$ Ht
  ihave Hz' := (show ((V d (kc L) (ks L)).loc cc0_scratch4 ↦{fullShare} fz : sProp 𝕄) ⊢ (zV).view.loc (V d (kc L) (ks L)) ↦{fullShare} fz from .rfl) $$ Hz
  ihave Hr' := (show ((V d (kc L) (ks L)).loc cc0_scratch5 ↦{fullShare} fr : sProp 𝕄) ⊢ (rV).view.loc (V d (kc L) (ks L)) ↦{fullShare} fr from .rfl) $$ Hr
  unfold k0_part1_skel k0_part2_skel
  sl_exec
  have eb : (bV).view.writes (Elt F) (bV).view.junk (tile_body.sl.Hb'_4 lb d L fa fc) = idxT (wN L) (labsOf (lb d) (wL L)) := by
    have hd : tile_body.sl.dma0 lb d L = labsOf (lb d) (wL L) := read_lRowK lb d L
    unfold tile_body.sl.Hb'_4
    rw [hd]
    simp only [ld_grp (aV).view fa (labsOf (lb d) (wL L)) 0 (by decide), ld_grp (aV).view fa (labsOf (lb d) (wL L)) 16 (by decide),
      ld_grp (aV).view fa (labsOf (lb d) (wL L)) 32 (by decide), ld_grp (aV).view fa (labsOf (lb d) (wL L)) 48 (by decide)]
    exact listT_eq d L _ _
  ihave Hb2 := (show ((bV).view.loc (V d (kc L) (ks L)) ↦{fullShare} (bV).view.writes (Elt F) (bV).view.junk (tile_body.sl.Hb'_4 lb d L fa fc) : sProp 𝕄)
      ⊢ (bV).view.loc (V d (kc L) (ks L)) ↦[(bV).view.set]{fullShare} idxT (wN L) (labsOf (lb d) (wL L)) from by
    rw [eb, show (bV).view.set = Finset.univ from View.set_whole _]) $$ Hb'
  have ec : (cV).view.writes (Elt F) fc
      [⟨Rect.unit ![48] S16.size inb_S64_S16_48, k0_pay13 (⟨tile_body.sl.v2 L, ⟨k0_pay6 L, tile_body.sl.v34 d L fc⟩⟩ : Σ' (_ : BitVec 32) (_ : IVec S16 32), Vec F S16 .i32).fst⟩, ⟨Rect.unit ![32] S16.size inb_S64_S16_32, k0_pay10 (⟨tile_body.sl.v2 L, ⟨k0_pay6 L, tile_body.sl.v34 d L fc⟩⟩ : Σ' (_ : BitVec 32) (_ : IVec S16 32), Vec F S16 .i32).fst⟩,
        ⟨Rect.unit ![16] S16.size inb_S64_S16_16, k0_pay7 (⟨tile_body.sl.v2 L, ⟨k0_pay6 L, tile_body.sl.v34 d L fc⟩⟩ : Σ' (_ : BitVec 32) (_ : IVec S16 32), Vec F S16 .i32).2.fst⟩, ⟨Rect.unit ![0] S16.size inb_S64_S16_0, k0_pay3 L⟩] = idx0 (wN L) := by
    exact list0_eq d L _
  ihave Hc2 := (show ((cV).view.loc (V d (kc L) (ks L)) ↦{fullShare} (cV).view.writes (Elt F) fc
      [⟨Rect.unit ![48] S16.size inb_S64_S16_48, k0_pay13 (⟨tile_body.sl.v2 L, ⟨k0_pay6 L, tile_body.sl.v34 d L fc⟩⟩ : Σ' (_ : BitVec 32) (_ : IVec S16 32), Vec F S16 .i32).fst⟩, ⟨Rect.unit ![32] S16.size inb_S64_S16_32, k0_pay10 (⟨tile_body.sl.v2 L, ⟨k0_pay6 L, tile_body.sl.v34 d L fc⟩⟩ : Σ' (_ : BitVec 32) (_ : IVec S16 32), Vec F S16 .i32).fst⟩,
        ⟨Rect.unit ![16] S16.size inb_S64_S16_16, k0_pay7 (⟨tile_body.sl.v2 L, ⟨k0_pay6 L, tile_body.sl.v34 d L fc⟩⟩ : Σ' (_ : BitVec 32) (_ : IVec S16 32), Vec F S16 .i32).2.fst⟩, ⟨Rect.unit ![0] S16.size inb_S64_S16_0, k0_pay3 L⟩] : sProp 𝕄)
      ⊢ (cV).view.loc (V d (kc L) (ks L)) ↦[(cV).view.set]{fullShare} idx0 (wN L) from by
    rw [ec, show (cV).view.set = Finset.univ from View.set_whole _]) $$ Hc'
  ihave Ht2 := (show ((tV).view.loc (V d (kc L) (ks L)) ↦{fullShare} ft : sProp 𝕄) ⊢ (tV).view.loc (V d (kc L) (ks L)) ↦[(tV).view.set]{fullShare} ft from by
    rw [show (tV).view.set = Finset.univ from View.set_whole _]) $$ Ht'
  ihave Hz2 := (show ((zV).view.loc (V d (kc L) (ks L)) ↦{fullShare} fz : sProp 𝕄) ⊢ (zV).view.loc (V d (kc L) (ks L)) ↦[(zV).view.set]{fullShare} fz from by
    rw [show (zV).view.set = Finset.univ from View.set_whole _]) $$ Hz'
  ihave Hxs := (pointsTo_split_subset (q := xq (wL L)) (f := xf d) (S := Finset.univ) (Finset.subset_univ (xAllK).view.set)).1 $$ Hx'
  icases Hxs with ⟨Hxs, Hxr⟩
  ihave Hxx := (pointsTo_share (PosShare.mem_left_op_right (xq (wL L)))).1 $$ Hxs
  icases Hxx with ⟨Hx1, Hx2⟩
  imod (Transfers.batch_alloc' EC (V d (kc L) (ks L)) (default : HIx 1) 32
    (GatherBatch.twoBlocks (show 64 + 64 = 128 from rfl)
      (rowsT lb xf d L hlab ft)
      (rows0 xf d L fz)) (sm := .dma cc0_scratch6.sem) (E := Set.univ)) $$ HsemG with HB
  iapply (GatherBatch.wp_gatherInBatch EC 𝒱₀ (V d (kc L) (ks L)) none (default : HIx 1) 32 (rowCredit _ (.inl rfl)) rows64_pos (hinT lb d L hlab)
    (D := GatherBatch.twoBlocks (show 64 + 64 = 128 from rfl) (rowsT lb xf d L hlab ft) (rows0 xf d L fz)) (k := 0) (u := 0) (n := 128) (by decide) (by decide) (fun j => Entails.of_eq (GatherBatch.twoBlocks_left (show 64 + 64 = 128 from rfl) (rowsT lb xf d L hlab ft) (rows0 xf d L fz) _ j (Nat.zero_add _)).symm)) $$ [Hx1 Ht2 Hb2 HB]
  · isplitl [Hx1]; · iexact Hx1
    isplitl [Ht2]; · iexact Ht2
    isplitl [Hb2]; · iexact Hb2
    iexact HB
  iintro HB
  sl_exec
  iapply (GatherBatch.wp_gatherInBatch EC 𝒱₀ (V d (kc L) (ks L)) none (default : HIx 1) 32 (rowCredit _ (.inr rfl)) rows64_pos (hin0 L)
    (D := GatherBatch.twoBlocks (show 64 + 64 = 128 from rfl) (rowsT lb xf d L hlab ft) (rows0 xf d L fz)) (k := 64) (u := 0) (n := 128) (by decide) (by decide) (fun j => Entails.of_eq (GatherBatch.twoBlocks_right (show 64 + 64 = 128 from rfl) (rowsT lb xf d L hlab ft) (rows0 xf d L fz) _ j rfl).symm)) $$ [Hx2 Hz2 Hc2 HB]
  · isplitl [Hx2]; · iexact Hx2
    isplitl [Hz2]; · iexact Hz2
    isplitl [Hc2]; · iexact Hc2
    iexact HB
  iintro HB
  unfold k0_part3_skel
  sl_exec
  iapply (Transfers.wp_waitBatchMulO EC 𝒱₀ (V d (kc L) (ks L)) none (default : HIx 1) (N := 32) 64 (wholeCredit _ (.inl rfl)) (j := 128) (u := 0) (by decide)) $$ [HB HO]
  · isplitl [HB]; · iexact HB
    isplitl [HO]; · iexact HO
    iapply (Transfers.MayWaits.elim (SemLoc.dma cc0_scratch6.sem)) $$ Hmw
  iintro ⟨HB, HO⟩
  ihave HB2 := (GatherBatch.aside_intro _) $$ HB
  sl_exec
  ihave HB := (GatherBatch.aside_elim _) $$ HB2
  iapply (Transfers.wp_waitBatchAllO EC 𝒱₀ (V d (kc L) (ks L)) none (default : HIx 1) (N := 32) (J := 64 * 32) (wholeCredit _ (.inr rfl)) (by decide) (n := 128) (u := 64 * 32) (by decide)) $$ [HB HO]
  · isplitl [HB]; · iexact HB
    isplitl [HO]; · iexact HO
    iapply (Transfers.MayWaits.elim (SemLoc.dma cc0_scratch6.sem)) $$ Hmw
  iintro ⟨HD, HsemG, HO⟩
  ihave HD2 := (Entails.of_eq (GatherBatch.bigSep_twoBlocks (show 64 + 64 = 128 from rfl) (rowsT lb xf d L hlab ft) (rows0 xf d L fz))) $$ HD
  icases HD2 with ⟨HT, HZ⟩
  ihave HT2 := (rowsT_join lb xf d L hlab ft) $$ HT
  ihave HZ2 := (rows0_join xf d L fz) $$ HZ
  icases HT2 with ⟨Ht', Hx1, Hb'⟩
  icases HZ2 with ⟨Hz', Hx2, Hc'⟩
  ihave Hxs := (pointsTo_share (PosShare.mem_left_op_right (xq (wL L)))).2 $$ [Hx1 Hx2]; · isplitl [Hx1] <;> iassumption
  ihave Hx' := (pointsTo_split_subset (q := xq (wL L)) (f := xf d) (S := Finset.univ) (Finset.subset_univ (xAllK).view.set)).2 $$ [Hxs Hxr]; · isplitl [Hxs] <;> iassumption
  unfold k0_part4_skel k0_part5_skel
  sl_exec
  have eo : ∀ y, tile_body.sl.dma30 lb xf d L fa ft fz fr y = outRow (labsOf (lb d) (wL L)) (xtOf (xf d) (lb d) (wL L)) (x0Of (xf d) (wL L)) y := by
    intro y
    have hd : tile_body.sl.dma0 lb d L = labsOf (lb d) (wL L) := read_lRowK lb d L
    have h0 := ld_grp (aV).view fa (labsOf (lb d) (wL L)) 0 (by decide) inb_S64_S16_0
    show (rV).view.read (Elt F) ((rV).view.writes (Elt F) fr (tile_body.sl.Hr'_9 lb xf d L fa ft fz)) y = _
    unfold tile_body.sl.Hr'_9 tile_body.sl.v78 tile_body.sl.v96 tile_body.sl.v114 tile_body.sl.v132
    rw [hd]
    simp only [ld_grp (aV).view fa (labsOf (lb d) (wL L)) 0 (by decide), ld_grp (aV).view fa (labsOf (lb d) (wL L)) 16 (by decide),
      ld_grp (aV).view fa (labsOf (lb d) (wL L)) 32 (by decide), ld_grp (aV).view fa (labsOf (lb d) (wL L)) 48 (by decide),
      ld_grp (tV).view ft (xtOf (xf d) (lb d) (wL L)) 0 (by decide), ld_grp (tV).view ft (xtOf (xf d) (lb d) (wL L)) 16 (by decide),
      ld_grp (tV).view ft (xtOf (xf d) (lb d) (wL L)) 32 (by decide), ld_grp (tV).view ft (xtOf (xf d) (lb d) (wL L)) 48 (by decide),
      ld_grp (zV).view fz (x0Of (xf d) (wL L)) 0 (by decide), ld_grp (zV).view fz (x0Of (xf d) (wL L)) 16 (by decide),
      ld_grp (zV).view fz (x0Of (xf d) (wL L)) 32 (by decide), ld_grp (zV).view fz (x0Of (xf d) (wL L)) 48 (by decide)]
    rw [pay_lanes]
    exact read_row d L fr _ _ _ rfl y
  have er : ∀ i ∈ (oRowK L).view.set, (oRowK L).view.writes (Elt F) (o₀ d) [⟨Rect.whole S128, tile_body.sl.dma30 lb xf d L fa ft fz fr⟩] i = outVal (xf d) (lb d) i := by
    intro i hi
    obtain ⟨x, -, rfl⟩ := Finset.mem_map.mp hi
    have h1 := View.read_writes_cons_hit_of_coords (oRowK L).view (o₀ d) (Rect.whole S128) (tile_body.sl.dma30 lb xf d L fa ft fz fr) [] x x
      fun a => (by show (x a).val = 0 + 1 * (x a).val; omega)
    refine (((View.read_apply _ _).trans (cast_eq _ _)).symm.trans h1).trans ((eo x).trans ?_)
    obtain ⟨e0, e1⟩ := emb_oRowK L x
    unfold outVal
    rw [show (((oRowK L).view.emb x : S32x128.Idx) 0) = wL L from Fin.ext e0]
    exact congrArg _ (idx1_ext rfl e1.symm)
  ihave Ho2 := (Entails.of_eq (pointsTo_congr (ℓ := (oRowK L).view.loc (V d (kc L) (ks L))) (q := fullShare) er)) $$ Ho'
  sl_step
  isplitl [Hl' Hx' Ho2]
  · isplitl [Hl']; · iapply (Entails.of_eq (pts_lRowK (F := F) d L _)); iexact Hl'
    isplitl [Hx']; · iexact Hx'
    iapply (Entails.of_eq (pts_oRowK (F := F) d L _)); iexact Ho2
  isplitl [Ha' Hb' Hc' Ht' Hz' Hr' Hbufs]
  · isplitl [Ha']; · iexists _; iexact Ha'
    isplitl [Hb']; · iexists _; iexact Hb'
    isplitl [Hc']; · iexists _; iexact Hc'
    isplitl [Ht']; · iexists _; iexact Ht'
    isplitl [Hz']; · iexists _; iexact Hz'
    isplitl [Hr']; · iexists _; iexact Hr'
    iexact Hbufs
  isplitl [HsemA HsemB HsemG Hsems]
  · isplitl [HsemA]; · iexact HsemA
    isplitl [HsemB]; · iexact HsemB
    isplitl [HsemG]; · iexact HsemG
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.KernelIdeal.Tile

end
-- ==== Proof.IdealDeal.lean ====
/-
  THE LAUNCH of `KernelIdeal`'s SparseCore call: what each SparseCore's sequencer is handed, what its sixteen tasks are handed,
  and what comes back. The thirty-two tasks of the two SparseCores cut the labels and the result into rows and the flat
  logits into shares; put together again, the result holds `outVal`.
-/
module

public import proofs.«01_k».proof.Proof.IdealTile

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "oV" => (Memref.whole Cert.KernelIdeal.main_v2_scv : Memref Cert.KernelIdeal.sig Kind.scVector Space.hbm Cert.KernelIdeal.S32x128 EltTy.f32)
local notation "lV" => (Memref.whole Cert.KernelIdeal.main_v0_scv : Memref Cert.KernelIdeal.sig Kind.scVector Space.hbm Cert.KernelIdeal.S2048 EltTy.i32)

variable [FloatOps F] [Named F]

variable (lb : (d : Dev nD) → Buf (Elt F) (lLoc d)) (xf : (d : Dev nD) → Buf (Elt F) (xLoc d)) (o₀ : (d : Dev nD) → Buf (Elt F) (oLoc d))

/-- The task that subcore `i` of SparseCore `c` runs. -/
def tw (c : Fin 2) (i : Fin 16) : Fin 32 := ⟨2 * i.val + c.val, by omega⟩

/-- The thirty-two tasks are the sixteen of each of the two SparseCores. -/
def twEquiv : Fin 2 × Fin 16 ≃ Fin 32 where
  toFun p := tw p.1 p.2
  invFun w := (⟨w.val % 2, Nat.mod_lt _ (by decide)⟩, ⟨w.val / 2, by omega⟩)
  left_inv p := by
    obtain ⟨c, i⟩ := p
    have hc := c.isLt
    refine Prod.ext (Fin.ext ?_) (Fin.ext ?_) <;> simp only [tw] <;> omega
  right_inv w := by refine Fin.ext ?_; simp only [tw]; omega

omit [FloatOps F] [Named F] in
theorem bigSep_tw (Φ : Fin 32 → sProp 𝕄) :
    bigSep Finset.univ Φ = bigSep Finset.univ fun c : Fin 2 => bigSep Finset.univ fun i : Fin 16 => Φ (tw c i) := by
  rw [bigSep_univ_equiv twEquiv Φ, bigSep_univ_prod]; rfl

/-- What task `w` brings back: what it was given, its row of the result at `outVal`. -/
def brought (d : Dev nD) (w : Fin 32) : sProp 𝕄 := iprop(lRowPts lb d w ∗ xShPts xf d w ∗ oRowPts d w (outVal (xf d) (lb d)))

instance given_storable (d : Dev nD) (w : Fin 32) : BI.Storable (upEmb : UEmb _ 𝕄) (given lb xf o₀ d w) := by unfold given; infer_instance
instance brought_storable (d : Dev nD) (w : Fin 32) : BI.Storable (upEmb : UEmb _ 𝕄) (brought lb xf d w) := by unfold brought; infer_instance

/-- A SparseCore's sixteen tasks' parts, given and brought back. -/
def givenAll (d : Dev nD) (c : Fin 2) : sProp 𝕄 := bigSep Finset.univ fun i : Fin 16 => given lb xf o₀ d (tw c i)
def broughtAll (d : Dev nD) (c : Fin 2) : sProp 𝕄 := bigSep Finset.univ fun i : Fin 16 => brought lb xf d (tw c i)

instance givenAll_storable (d : Dev nD) (c : Fin 2) : BI.Storable (upEmb : UEmb _ 𝕄) (givenAll lb xf o₀ d c) := by unfold givenAll; infer_instance
instance broughtAll_storable (d : Dev nD) (c : Fin 2) : BI.Storable (upEmb : UEmb _ 𝕄) (broughtAll lb xf d c) := by unfold broughtAll; infer_instance

abbrev cIx (c : Fin ((K (F := F)).nCore 0)) : Fin 2 := Fin.cast nCore_zero c
abbrev iIx (i : Fin ((K (F := F)).nSub 0)) : Fin 16 := Fin.cast nSub_zero i

/-- The handshakes of the one call. -/
def P : (K (F := F)).Pay (nD := nD) (Val := Elt F) (Name := ℕ) (U := UU) where
  st := fun q d c => match q with | 0 => givenAll lb xf o₀ d (cIx (F := F) c)
  dn := fun q d c => match q with | 0 => broughtAll lb xf d (cIx (F := F) c)
  go := fun q d c i => match q with | 0 => given lb xf o₀ d (tw (cIx (F := F) c) (iIx (F := F) i))
  td := fun q d c i => match q with | 0 => brought lb xf d (tw (cIx (F := F) c) (iIx (F := F) i))
  x := fun _ _ => iprop(emp)

instance P_storable : (P (F := F) lb xf o₀).IsStorable where
  st q d c := match q with
    | 0 => (inferInstance : BI.Storable (upEmb : UEmb _ 𝕄) (givenAll lb xf o₀ d (cIx (F := F) c)))
  dn q d c := match q with
    | 0 => (inferInstance : BI.Storable (upEmb : UEmb _ 𝕄) (broughtAll lb xf d (cIx (F := F) c)))
  go q d c i := match q with
    | 0 => (inferInstance : BI.Storable (upEmb : UEmb _ 𝕄) (given lb xf o₀ d (tw (cIx (F := F) c) (iIx (F := F) i))))
  td q d c i := match q with
    | 0 => (inferInstance : BI.Storable (upEmb : UEmb _ 𝕄) (brought lb xf d (tw (cIx (F := F) c) (iIx (F := F) i))))

/-- A SparseCore hands its tasks what it was handed, and hands on what they bring back. -/
theorem vecSplit : (K (F := F)).VecSplit' (P lb xf o₀) 0 := by
  intro d c
  show givenAll lb xf o₀ d (cIx (F := F) c) ⊢ |={Set.univ}=> iprop(
      (bigSep Finset.univ fun i : Fin 16 => given lb xf o₀ d (tw (cIx (F := F) c) i))
      ∗ ((bigSep Finset.univ fun i : Fin 16 => brought lb xf d (tw (cIx (F := F) c) i)) -∗ broughtAll lb xf d (cIx (F := F) c)))
  unfold givenAll broughtAll
  iintro H; imodintro
  isplitl [H]; · iexact H
  iintro H; iexact H

/-! ## The task as the launch calls it -/

/-- The grid coordinates of subcore `s` of SparseCore `c`. -/
def at2 (c : Fin (grid0.bound 0)) (s : Fin (grid0.bound 1)) : grid0.Coords :=
  fun | 0 => c | 1 => s | ⟨_ + 2, h⟩ => absurd h (Nat.not_lt.2 (Nat.le_add_left _ _))

theorem defs₀_vec (c : Fin τ.nSC) (s : Fin τ.nSub) :
    defs₀ (F := F) (.scVector c s) 0 ()
      = SparseCore.onTile hcore0 hsub0 (fun c s => cc0__sc_gather_body (at2 c s)
          (Memref.whole main_v1_scv) (Memref.isWhole_whole _) (Memref.whole main_v0_scv) (Memref.isWhole_whole _) (Memref.whole main_v2_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          cc0_scratch6 cc0_scoped0 cc0_scoped1) ⟨⟩ c s := rfl

omit [FloatOps F] [Named F] in
/-- What a task may have waited on, in the launch's wider terms. -/
theorem post_widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The obligation of the one call: each task runs from what it is given to what it brings back. -/
theorem tileObl (hF : (K (F := F)).Facts) (hlab : LabelsOK lb) : (K (F := F)).TileObl (D (F := F)) 𝒱 (P lb xf o₀) v₀ 0 := by
  intro d c i O W hO _ _
  simp only [show (P lb xf o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vec]; simp only [SparseCore.onTile, hci, and_self, ↓reduceDIte]
  exact (tile_body lb xf o₀ d (at2 ⟨_, hci.1⟩ ⟨_, hci.2⟩) hF hlab O W hO).trans (wp_mono frame _ _ fun _ => post_widen)

/-! ## The arrays as the tasks' parts -/

omit [FloatOps F] [Named F] in
theorem lRowSet_eq (w : Fin 32) : lRowSet w = (lrow w).set := by
  show ((View.whole (main_v0_scv : Ref sig .scVector)).slice (lrow w)).set = _
  rw [View.set_slice]; exact Finset.map_refl
omit [FloatOps F] [Named F] in
theorem oRowSet_eq (w : Fin 32) : oRowSet w = (orow w).set := by
  show ((View.whole (main_v2_scv : Ref sig .scVector)).slice (orow w)).set = _
  rw [View.set_slice]; exact Finset.map_refl

omit [FloatOps F] [Named F] in
/-- The labels are the tasks' rows of them. -/
theorem lPts_rows (d : Dev nD) (f : Buf (Elt F) (lLoc d)) :
    (lLoc d ↦{fullShare} f : sProp 𝕄) = bigSep Finset.univ fun w : Fin 32 => lLoc d ↦[lRowSet w]{fullShare} f := by
  have hd : ∀ i ∈ (Finset.univ : Finset (Fin 32)), ∀ j ∈ (Finset.univ : Finset (Fin 32)), i ≠ j → Disjoint (lRowSet i) (lRowSet j) :=
    fun i _ j _ h => by rw [lRowSet_eq, lRowSet_eq]; exact Rect.part_disjoint ldiv h
  have hc : (Finset.univ : Finset (Fin 32)).biUnion lRowSet = Finset.univ :=
    (Finset.biUnion_congr rfl fun i _ => lRowSet_eq i).trans (Rect.biUnion_part ldiv)
  rw [← pointsTo_biUnion Finset.univ (ℓ := lLoc d) lRowSet hd, hc]; try rfl
omit [FloatOps F] [Named F] in
/-- The result is the tasks' rows of it. -/
theorem oPts_rows (d : Dev nD) (f : Buf (Elt F) (oLoc d)) :
    (oLoc d ↦{fullShare} f : sProp 𝕄) = bigSep Finset.univ fun w : Fin 32 => oLoc d ↦[oRowSet w]{fullShare} f := by
  have hd : ∀ i ∈ (Finset.univ : Finset (Fin 32)), ∀ j ∈ (Finset.univ : Finset (Fin 32)), i ≠ j → Disjoint (oRowSet i) (oRowSet j) :=
    fun i _ j _ h => by rw [oRowSet_eq, oRowSet_eq]; exact Rect.part_disjoint odiv h
  have hc : (Finset.univ : Finset (Fin 32)).biUnion oRowSet = Finset.univ :=
    (Finset.biUnion_congr rfl fun i _ => oRowSet_eq i).trans (Rect.biUnion_part odiv)
  rw [← pointsTo_biUnion Finset.univ (ℓ := oLoc d) oRowSet hd, hc]; try rfl

/-- What the two SparseCores are handed is the labels, the flat logits and the result, whole. -/
theorem st0_eq (d : Dev nD) : (bigSep Finset.univ fun c : Fin ((K (F := F)).nCore 0) => (P lb xf o₀).st 0 d c)
    = iprop((lLoc d ↦{fullShare} lb d) ∗ (xLoc d ↦{fullShare} xf d) ∗ oLoc d ↦{fullShare} o₀ d) := by
  show (bigSep Finset.univ fun c : Fin 2 => bigSep Finset.univ fun i : Fin 16 => given lb xf o₀ d (tw c i)) = _
  rw [← bigSep_tw (fun w => given lb xf o₀ d w)]
  unfold given
  rw [bigSep_sep', bigSep_sep', lPts_rows, oPts_rows, pointsTo_piecesOf Finset.univ (xf d) (show 0 < 32 by decide) fullShare]

/-- What they hand back is the same, the result at `outVal`. -/
theorem dn0_eq (d : Dev nD) : (bigSep Finset.univ fun c : Fin ((K (F := F)).nCore 0) => (P lb xf o₀).dn 0 d c)
    = iprop((lLoc d ↦{fullShare} lb d) ∗ (xLoc d ↦{fullShare} xf d) ∗ oLoc d ↦{fullShare} (outVal (xf d) (lb d) : Buf (Elt F) (oLoc d))) := by
  show (bigSep Finset.univ fun c : Fin 2 => bigSep Finset.univ fun i : Fin 16 => brought lb xf d (tw c i)) = _
  rw [← bigSep_tw (fun w => brought lb xf d w)]
  unfold brought
  rw [bigSep_sep', bigSep_sep', lPts_rows, oPts_rows, pointsTo_piecesOf Finset.univ (xf d) (show 0 < 32 by decide) fullShare]

end Cert.KernelIdeal.Tile

end
-- ==== Proof.IdealRegion.lean ====
/-
  THE TENSORCORE REGION of `KernelIdeal`: sixteen grid points, each adding to one word in scalar memory what its block of 128
  rows contributes; the first point starts the word at the sum of what the SparseCore call left. The body's two runs, the
  region's proof data, and the region entered from any contents of the arrays.
-/
module

public import proofs.«01_k».proof.Proof.IdealDeal
public import proofs.«01_k».proof.Proof.Gen.KernelIdeal.Points
public import Idealize.ShloMosaic.Lib.Pipeline.Value

@[expose] public section

noncomputable section

namespace Cert.KernelIdeal.Tile

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig (HIx 1) (Elt F) ℕ UU ℕ

/-! ## The body's two runs -/

/-- A memref's buffer on the TensorCore, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The point is the grid's first, as the body tests it. -/
abbrev First (i : grid1.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

section Body

variable (c : Dev nD) (i : grid1.Coords)
    (M0 : Memref sig .tc .vmem S128x32000 .f32) (h0 : M0.IsWhole) (M1 : Memref sig .tc .vmem S1x1x128 .i32) (h1 : M1.IsWhole)
    (M2 : Memref sig .tc .vmem S32x128 .f32) (h2 : M2.IsWhole) (M3 : Memref sig .tc .smem S1x1 .f32) (h3 : M3.IsWhole)
    (f0 : Bf (F := F) c M0) (f1 : Bf (F := F) c M1) (f2 : Bf (F := F) c M2) (f3 : Bf (F := F) c M3)

/-- The body at the first point: what it leaves in the word's buffer, with the run. -/
noncomputable def runFirst (hi : First i) :
    { W : Bf (F := F) c M3 // ∀ (E : Set ℕ) (Q : PUnit → sProp 𝕄),
        iprop(pt c M0 f0 ∗ pt c M1 f1 ∗ pt c M2 f2 ∗ pt c M3 f3 ∗ (iprop(pt c M0 f0 ∗ pt c M1 f1 ∗ pt c M2 f2 ∗ pt c M3 W) -∗ Q ⟨⟩))
          ⊢ wp frame (wpE (defs₀ (F := F)) Variants.none c none) E (cc1__tc_body i M0 h0 M1 h1 M2 h2 M3 h3) Q } := by
  refine ⟨?_, fun E Q => ?run⟩
  case run =>
    rw [cc1__tc_body_eq_skeleton]; unfold cc1__tc_body_skel
    simp only [smemLoad, smemLoadElt, Prog.lift, Prog.bind_op, Prog.bind_ret, Prog.pure_eq_ret, Prog.bind_assoc]
    unfold First at hi
    simp only [hi, ↓reduceDIte, Prog.bind_op, Prog.bind_ret, Prog.pure_eq_ret, Prog.bind_assoc]
    iintro ⟨H0, H1, H2, H3, Hk⟩
    sl_exec!
    sl_step
    iapply Hk
    isplitl [H0]; · iexact H0
    isplitl [H1]; · iexact H1
    isplitl [H2]; · iexact H2
    iexact H3

/-- The body at a later point. -/
noncomputable def runLater (hi : ¬ First i) :
    { W : Bf (F := F) c M3 // ∀ (E : Set ℕ) (Q : PUnit → sProp 𝕄),
        iprop(pt c M0 f0 ∗ pt c M1 f1 ∗ pt c M2 f2 ∗ pt c M3 f3 ∗ (iprop(pt c M0 f0 ∗ pt c M1 f1 ∗ pt c M2 f2 ∗ pt c M3 W) -∗ Q ⟨⟩))
          ⊢ wp frame (wpE (defs₀ (F := F)) Variants.none c none) E (cc1__tc_body i M0 h0 M1 h1 M2 h2 M3 h3) Q } := by
  refine ⟨?_, fun E Q => ?run⟩
  case run =>
    rw [cc1__tc_body_eq_skeleton]; unfold cc1__tc_body_skel
    simp only [smemLoad, smemLoadElt, Prog.lift, Prog.bind_op, Prog.bind_ret, Prog.pure_eq_ret, Prog.bind_assoc]
    unfold First at hi
    simp only [hi, ↓reduceDIte, Prog.bind_op, Prog.bind_ret, Prog.pure_eq_ret, Prog.bind_assoc]
    iintro ⟨H0, H1, H2, H3, Hk⟩
    sl_exec!
    sl_step
    iapply Hk
    isplitl [H0]; · iexact H0
    isplitl [H1]; · iexact H1
    isplitl [H2]; · iexact H2
    iexact H3

omit [FloatOps F] [Named F] in
theorem z2 : (![0, 0] : Fin 2 → Nat) = fun _ => 0 := funext fun a => by fin_cases a <;> rfl
omit [FloatOps F] [Named F] in
theorem z3 : (![0, 0, 0] : Fin 3 → Nat) = fun _ => 0 := funext fun a => by fin_cases a <;> rfl

/-- The first point leaves the start plus its block's part. -/
theorem runFirst_eq (hi : First i) :
    M3.view.read (Elt F) (runFirst c i M0 h0 M1 h1 M2 h2 M3 h3 f0 f1 f2 f3 hi).1
      = fun _ => k1_pay2 (M0.view.read (Elt F) f0) (M1.view.read (Elt F) f1) (k1_pay1 (M2.view.read (Elt F) f2)) := by
  unfold runFirst
  dsimp only
  sl_unfold_words
  rw [View.read_writes_eq_canon _ _ _ (fun y => ⟨_, List.mem_cons_self, by rw [Rect.mem_set_unit]; intro a; have := (y a).isLt; fin_cases a <;> simpa using this⟩),
    View.canon_cons_unit_zero (S := S1x1) z2]
  funext _
  simp only [View.readAt_eq_ld, View.ld_unit_zero (S := S128x32000) z2, View.ld_unit_zero (S := S32x128) z2, View.ld_unit_zero (S := S1x1x128) z3]

/-- A later point leaves what it found plus its block's part. -/
theorem runLater_eq (hi : ¬ First i) :
    M3.view.read (Elt F) (runLater c i M0 h0 M1 h1 M2 h2 M3 h3 f0 f1 f2 f3 hi).1
      = fun j => k1_pay2 (M0.view.read (Elt F) f0) (M1.view.read (Elt F) f1) (M3.view.read (Elt F) f3 j) := by
  unfold runLater
  dsimp only
  sl_unfold_words
  rw [View.read_writes_eq_canon _ _ _ (fun y => ⟨_, List.mem_cons_self, by rw [Rect.mem_set_unit]; intro a; have := (y a).isLt; fin_cases a <;> simpa using this⟩),
    View.canon_cons_unit_zero (S := S1x1) z2]
  funext j
  have hj : ∀ j j' : S1x1.Idx, j = j' := fun j j' => funext fun a => by
    have hs : S1x1.size a = 1 := by fin_cases a <;> rfl
    apply Fin.ext; have h1 := (j a).isLt; have h2 := (j' a).isLt; omega
  simp only [View.readAt_eq_ld, View.ld_unit_zero (S := S128x32000) z2, View.ld_unit_zero (S := S1x1) z2, View.ld_unit_zero (S := S1x1x128) z3]
  exact congrArg _ ((congrFun (View.ld_unit_zero (S := S1x1) z2 _ _) _).trans (congrArg _ (hj _ _)))

end Body

/-! ## The body between owned buffers -/

section Owned

variable (c : Dev nD) (i : grid1.Coords)
    (M0 : Memref sig .tc .vmem S128x32000 .f32) (h0 : M0.IsWhole) (M1 : Memref sig .tc .vmem S1x1x128 .i32) (h1 : M1.IsWhole)
    (M2 : Memref sig .tc .vmem S32x128 .f32) (h2 : M2.IsWhole) (M3 : Memref sig .tc .smem S1x1 .f32) (h3 : M3.IsWhole)
    (X0 : S128x32000.Idx → Elt F .f32) (X1 : S1x1x128.Idx → Elt F .i32) (X2 : S32x128.Idx → Elt F .f32)

/-- At the first point. -/
theorem body_first (hi : First i) (Q : PUnit → sProp 𝕄) :
    iprop(owns (c : Thread nD τ) M0 fullShare X0 ∗ owns (c : Thread nD τ) M1 fullShare X1 ∗ owns (c : Thread nD τ) M2 fullShare X2 ∗ (∃ d, owns (c : Thread nD τ) M3 fullShare d)
        ∗ ((owns (c : Thread nD τ) M0 fullShare X0 ∗ owns (c : Thread nD τ) M1 fullShare X1 ∗ owns (c : Thread nD τ) M2 fullShare X2
            ∗ owns (c : Thread nD τ) M3 fullShare (fun _ => k1_pay2 X0 X1 (k1_pay1 X2))) -∗ Q ⟨⟩))
      ⊢ (wp frame (wpE (defs₀ (F := F)) Variants.none c none) Set.univ (cc1__tc_body i M0 h0 M1 h1 M2 h2 M3 h3) Q : sProp 𝕄) := by
  unfold owns
  simp only [h0.set_eq_univ, h1.set_eq_univ, h2.set_eq_univ, h3.set_eq_univ]
  iintro ⟨⟨%f0, %e0, H0⟩, ⟨%f1, %e1, H1⟩, ⟨%f2, %e2, H2⟩, ⟨%d, %f3, -, H3⟩, Hk⟩
  subst e0 e1 e2
  iapply ((runFirst c i M0 h0 M1 h1 M2 h2 M3 h3 f0 f1 f2 f3 hi).2 Set.univ _)
  isplitl [H0]; · iexact H0
  isplitl [H1]; · iexact H1
  isplitl [H2]; · iexact H2
  isplitl [H3]; · iexact H3
  iintro ⟨H0, H1, H2, H3⟩
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists (runFirst c i M0 h0 M1 h1 M2 h2 M3 h3 f0 f1 f2 f3 hi).1; isplitr
  · ipureintro; exact runFirst_eq c i M0 h0 M1 h1 M2 h2 M3 h3 f0 f1 f2 f3 hi
  iexact H3

/-- At a later point, the word found at `a`. -/
theorem body_later (hi : ¬ First i) (a : F .f32) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare (fun _ => a)
        ∗ ((owns (c : Thread nD τ) M0 fullShare X0 ∗ owns (c : Thread nD τ) M1 fullShare X1 ∗ owns (c : Thread nD τ) M2 fullShare X2
            ∗ owns (c : Thread nD τ) M3 fullShare (fun _ => k1_pay2 X0 X1 a)) -∗ Q ⟨⟩))
      ⊢ (wp frame (wpE (defs₀ (F := F)) Variants.none c none) Set.univ (cc1__tc_body i M0 h0 M1 h1 M2 h2 M3 h3) Q : sProp 𝕄) := by
  unfold owns
  simp only [h0.set_eq_univ, h1.set_eq_univ, h2.set_eq_univ, h3.set_eq_univ]
  iintro ⟨⟨%f0, %e0, H0⟩, ⟨%f1, %e1, H1⟩, ⟨%f2, %e2, H2⟩, ⟨%f3, %e3, H3⟩, Hk⟩
  subst e0 e1 e2
  iapply ((runLater c i M0 h0 M1 h1 M2 h2 M3 h3 f0 f1 f2 f3 hi).2 Set.univ _)
  isplitl [H0]; · iexact H0
  isplitl [H1]; · iexact H1
  isplitl [H2]; · iexact H2
  isplitl [H3]; · iexact H3
  iintro ⟨H0, H1, H2, H3⟩
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists (runLater c i M0 h0 M1 h1 M2 h2 M3 h3 f0 f1 f2 f3 hi).1; isplitr
  · ipureintro
    rw [runLater_eq c i M0 h0 M1 h1 M2 h2 M3 h3 f0 f1 f2 f3 hi, e3]
  iexact H3

end Owned

/-- The first point is point 0. -/
theorem first_iff (t : Fin cfg1.N) : First (grid1.coords t) ↔ t.val = 0 := by
  rcases fin_N1 t with rfl | rfl | rfl | rfl | rfl | rfl | rfl | rfl | rfl | rfl | rfl | rfl | rfl | rfl | rfl | rfl <;> decide

/-! ## The proof data, at an entry valuation -/

section Data

variable (V : (c : Dev nD) → (b : Ref sig .tc) → Buf (Elt F) ((c : Thread nD τ).loc b))

/-- The blocks at point `t`: of the logits, of the labels, and the SparseCore call's result. -/
abbrev xBlk (c : Dev nD) (t : Fin cfg1.N) : S128x32000.Idx → Elt F .f32 := ((cfg1.win 0).blk t).view.read (Elt F) (V c main_v3)
abbrev lBlk (c : Dev nD) (t : Fin cfg1.N) : S1x1x128.Idx → Elt F .i32 := ((cfg1.win 1).blk t).view.read (Elt F) (V c main_v4)
abbrev sBlk (c : Dev nD) (t : Fin cfg1.N) : S32x128.Idx → Elt F .f32 := ((cfg1.win 2).blk t).view.read (Elt F) (V c main_v2)

/-- The word after point `n`. -/
def accAt (c : Dev nD) : (n : ℕ) → n < cfg1.N → F .f32
  | 0, h => k1_pay2 (xBlk V c ⟨0, h⟩) (lBlk V c ⟨0, h⟩) (k1_pay1 (sBlk V c ⟨0, h⟩))
  | n + 1, h => k1_pay2 (xBlk V c ⟨n + 1, h⟩) (lBlk V c ⟨n + 1, h⟩) (accAt c n (Nat.lt_of_succ_lt h))

/-- What the region's waits may sit beside: pairs at or below the level the call left. -/
def low (c : Dev nD) : Set (SemLoc sig × HIx 1) := {p | (K (F := F)).lev ((T c : Thread nD τ), p.1) p.2 ≤ 8}

/-- The proof data of the region entered from `V`. -/
def dat (c : Dev nD) : Dat τ (Elt F) (HIx 1) ℕ UU ℕ cfg1 c where
  A w := V c (Pipeline.arrRef spec1 w)
  after w t := match w with
    | ⟨0, _⟩ => xBlk V c t
    | ⟨1, _⟩ => lBlk V c t
    | ⟨2, _⟩ => sBlk V c t
    | ⟨3, _⟩ => fun _ => accAt V c t.val t.isLt
  Φ _ := Pipeline.scopedRest (Ix := HIx 1) (Name := ℕ) (U := UU) (Lvl := ℕ) (Val := Elt F) spec1 c
  q _ := fullShare
  owed _ := 0
  recorded _ := low (F := F) c

theorem before_0 (c : Dev nD) (t : Fin cfg1.N) (d) : (dat V c).before 0 t d = xBlk V c t :=
  ((dat V c).before_fetched 0 t (fetch1_0 t) d).trans rfl
theorem before_1 (c : Dev nD) (t : Fin cfg1.N) (d) : (dat V c).before 1 t d = lBlk V c t :=
  ((dat V c).before_fetched 1 t (fetch1_1 t) d).trans rfl
theorem before_2 (c : Dev nD) (t : Fin cfg1.N) (d) : (dat V c).before 2 t d = sBlk V c t :=
  ((dat V c).before_in_eq_fetched 2 rfl (fun _ => rfl) (fun _ _ _ => rfl) (fun _ => rfl) t d).trans rfl
theorem before_3 (c : Dev nD) (n : ℕ) (h : n + 1 < cfg1.N) (d) : (dat V c).before 3 ⟨n + 1, h⟩ d = fun _ => accAt V c n (Nat.lt_of_succ_lt h) := by
  refine ((dat V c).before_out_kept 3 rfl ⟨n + 1, h⟩ (Nat.succ_ne_zero n) ?_ (fun _ => rfl) (fun _ _ => rfl) d).trans rfl
  rw [← Bool.not_eq_true, flush1_3]
  have hN : cfg1.N = 16 := N_1
  dsimp only; omega

set_option maxRecDepth 16384 in
/-- The body's obligation at every point. -/
theorem body_obligation (c : Dev nD) : BodyObligation (dat V c) (defs₀ (F := F)) Variants.none (none : HIx 1) Set.univ := fun t => by
  rw [bigSep_W1, bigSep_W1]
  change iprop((dat V c).Φ t.castSucc ∗ (dat V c).owesAt none t.castSucc
      ∗ (∃ d, owns (c : Thread nD τ) (st1_0 t) fullShare ((dat V c).before 0 t d)) ∗ (∃ d, owns (c : Thread nD τ) (st1_1 t) fullShare ((dat V c).before 1 t d))
      ∗ (∃ d, owns (c : Thread nD τ) (st1_2 t) fullShare ((dat V c).before 2 t d)) ∗ (∃ d, owns (c : Thread nD τ) (st1_3 t) fullShare ((dat V c).before 3 t d)))
    ⊢ wp frame (wpE (defs₀ (F := F)) Variants.none c none) Set.univ (bodyAt1 t) fun _ =>
      iprop((dat V c).Φ t.castSucc ∗ (dat V c).owesAt none t.castSucc
        ∗ owns (c : Thread nD τ) (st1_0 t) fullShare (xBlk V c t) ∗ owns (c : Thread nD τ) (st1_1 t) fullShare (lBlk V c t)
        ∗ owns (c : Thread nD τ) (st1_2 t) fullShare (sBlk V c t) ∗ owns (c : Thread nD τ) (st1_3 t) fullShare (fun _ => accAt V c t.val t.isLt))
  simp only [before_0, before_1, before_2]
  obtain ⟨n, hn⟩ := t
  match n with
  | 0 =>
    iintro ⟨HΦ, HO, ⟨%d0, H0⟩, ⟨%d1, H1⟩, ⟨%d2, H2⟩, ⟨%d3, H3⟩⟩
    iapply (body_first c (grid1.coords ⟨0, hn⟩) _ (hstage1_0 _) _ (hstage1_1 _) _ (hstage1_2 _) _ (hstage1_3 _) (xBlk V c ⟨0, hn⟩) (lBlk V c ⟨0, hn⟩) (sBlk V c ⟨0, hn⟩) ((first_iff ⟨0, hn⟩).mpr rfl) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [HO]; · iexact HO
    isplitl [H0]; · iexact H0
    isplitl [H1]; · iexact H1
    isplitl [H2]; · iexact H2
    iexact H3
  | n + 1 =>
    simp only [before_3]
    iintro ⟨HΦ, HO, ⟨%d0, H0⟩, ⟨%d1, H1⟩, ⟨%d2, H2⟩, ⟨%d3, H3⟩⟩
    iapply (body_later c (grid1.coords ⟨n + 1, hn⟩) _ (hstage1_0 _) _ (hstage1_1 _) _ (hstage1_2 _) _ (hstage1_3 _) (xBlk V c ⟨n + 1, hn⟩) (lBlk V c ⟨n + 1, hn⟩) (sBlk V c ⟨n + 1, hn⟩) (fun h => Nat.succ_ne_zero n ((first_iff ⟨n + 1, hn⟩).mp h)) (accAt V c n (Nat.lt_of_succ_lt hn)) _)
    isplitl [H0]; · iexact H0
    isplitl [H1]; · iexact H1
    isplitl [H2]; · iexact H2
    isplitl [H3]; · iexact H3
    iintro ⟨H0, H1, H2, H3⟩
    isplitl [HΦ]; · iexact HΦ
    isplitl [HO]; · iexact HO
    isplitl [H0]; · iexact H0
    isplitl [H1]; · iexact H1
    isplitl [H2]; · iexact H2
    iexact H3

end Data

end Cert.KernelIdeal.Tile

end
-- ==== Proof.IdealEntry.lean ====
/-
  THE TENSORCORE REGION of `KernelIdeal` ENTERED: what its result array ends holding, and the region as one step from every
  unscoped buffer at one family of contents to the same at the next, the core owing nothing and its recorded waits low.
-/
module

public import proofs.«01_k».proof.Proof.IdealRegion
public import Idealize.ShloMosaic.Lib.Pipeline.RegionsLoop

@[expose] public section

noncomputable section

namespace Cert.KernelIdeal.Tile

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-- The word after the last point. -/
abbrev total (c : Dev nD) : F .f32 := accAt V c 15 (by rw [show cfg1.N = 16 from N_1]; decide)

/-- The one write-back, at the last point, carries the word. -/
theorem flushed_total (c : Dev nD) (t : Fin cfg1.N) (hf : (cfg1.win 3).flush t = true) :
    (dat V c).flushed 3 t = ((cfg1.win 3).blk t).view.read (Elt F) (fun _ => total V c) := by
  have hN : cfg1.N = 16 := N_1
  have h15 : t.val = 15 := by have := (flush1_3 t).mp hf; have := t.isLt; omega
  obtain rfl : t = t1_15 := Fin.ext h15
  rfl

/-- So the result array ends holding it. -/
theorem arr_total (c : Dev nD) : (dat V c).arrAt 3 cfg1.N = fun _ => total V c :=
  (dat V c).arrAt_eq_of_cover 3 (fun _ => total V c) (flushed_total V c) fun i =>
    ⟨t1_15, (flush1_3 t1_15).mpr rfl, by
      show i ∈ ((View.whole main_v5).slice (win1_3.rect t1_15)).set
      rw [View.set_slice_whole, Rect.mem_set_unit]
      intro a
      have h0 : (i 0 : Nat) < 1 := (i 0).isLt
      have h1 : (i 1 : Nat) < 1 := (i 1).isLt
      match a with
      | ⟨0, _⟩ => show win1_3.index t1_15 0 * win1_3.size 0 ≤ (i 0 : Nat) ∧ (i 0 : Nat) < win1_3.index t1_15 0 * win1_3.size 0 + win1_3.xsize (grid1.coords t1_15) 0
                  rw [show win1_3.index t1_15 0 * win1_3.size 0 = 0 from by decide +kernel, show win1_3.xsize (grid1.coords t1_15) 0 = 1 from by decide +kernel]; omega
      | ⟨1, _⟩ => show win1_3.index t1_15 1 * win1_3.size 1 ≤ (i 1 : Nat) ∧ (i 1 : Nat) < win1_3.index t1_15 1 * win1_3.size 1 + win1_3.xsize (grid1.coords t1_15) 1
                  rw [show win1_3.index t1_15 1 * win1_3.size 1 = 0 from by decide +kernel, show win1_3.xsize (grid1.coords t1_15) 1 = 1 from by decide +kernel]; omega⟩

/-- There are no prefetched tables, so nothing to admit. -/
abbrev adm (p : Fin 1) : (pcfgs (F := F) p).Adm := (cfgs p).toPCfg_adm

/-- The data of the program's one region. -/
def pdats (p : Fin 1) (c : Dev nD) : Dat τ (Elt F) (HIx 1) ℕ UU ℕ (Pipeline.pin (pcfgs (F := F)) adm p) c :=
  match p with
  | 0 => dat V c

/-- What the core owes beside the region: nothing, its recorded waits low. -/
abbrev calm (c : Dev nD) : sProp 𝕄 :=
  iprop(∃ W, ⌜∀ p ∈ W, (K (F := F)).lev ((T c : Thread nD τ), p.1) p.2 ≤ 8⌝ ∗ owes (T c : Thread nD τ) (0 : CellTallies nD τ sig (HIx 1)) W)

variable (Vp : (c : Dev nD) → (b : Ref sig .tc) → Buf (Elt F) ((c : Thread nD τ).loc b))

set_option backward.isDefEq.respectTransparency.types false in
/-- The region, entered from every unscoped buffer at `V` and left with the same at `Vp`. -/
def reg (hVp_out : ∀ c, Vp c main_v5 = fun _ => total V c) (hVp_ne : ∀ c (b : Ref sig .tc), b ≠ main_v5 → Vp c b = V c b) :
    Pipeline.RegionSeg (pcfgs (F := F)) adm (pdats V) (none : HIx 1) defs₀ Variants.none (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ calm c)
  post c := iprop(unscopedBufs c (Vp c) ∗ calm c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v3 (by decide)).symm
        · exact ((pdats V 0 c).arrAt_in 1 rfl _).trans (hVp_ne c main_v4 (by decide)).symm
        · exact ((pdats V 0 c).arrAt_in 2 rfl _).trans (hVp_ne c main_v2 (by decide)).symm
        · exact (arr_total V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · obtain ⟨w, s, rfl⟩ := h; exact Nat.zero_le _
    iexact HO

end Cert.KernelIdeal.Tile

end
-- ==== Proof.IdealMain.lean ====
/-
  @main OF `KernelIdeal` RUN: the reshapes, the SparseCore call, the TensorCore region, and the launch theorem over them. The
  buffers of the TensorCore are held together at a family of contents, which each statement replaces by the next.
-/
module

public import proofs.«01_k».proof.Proof.IdealEntry
public import Idealize.ShloMosaic.Lib.Pipeline.Frame
public import proofs.«01_k».proof.Proof.Gen.Pre_in_vocab

@[expose] public section

noncomputable section

namespace Cert.KernelIdeal.Tile

open Cert.KernelIdeal Cert.KernelIdeal.Gen

open Idealize.ShloMosaic
open Idealize.ShloMosaic.TcCoe Idealize.ShloMosaic.Tactic
open Idealize.ShloMosaic.Rounds
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The launch's ghost state -/

/-- The region's rounds: the left half of the right half. -/
def EP : Emb UR (MT nD τ sig (HIx 1) (Elt F) ℕ UU ℕ) :=
  (Emb.inl : Emb UR (UR × Counters)).trans embR
instance EP_landsIn : (EP : Emb UR 𝕄).LandsIn (upEmb : UEmb _ 𝕄) := by unfold EP; infer_instance

variable [FloatOps F] [Named F]

abbrev kcfgs : Fin 1 → Pipeline.Cfg sig Λ₀ := Pipeline.pin (pcfgs (F := F)) adm
theorem kinj : Function.Injective (Pipeline.cellOf (nD := nD) (τ := τ) (kcfgs (F := F))) := cellOf_inj

/-- What the launch starts from: the handshakes' rounds, the region's, no transfer counted. -/
def u₀ : UU := (initOf (K (F := F)).hsCells (K (F := F)).hsToks, (initOf (Pipeline.cells (kcfgs (F := F)) kinj) (Pipeline.launchToks (kcfgs (F := F)) kinj), 1))

/-- What each TensorCore is dealt of it: its region's cells and tokens. -/
def deal (d : Dev nD) : sProp 𝕄 :=
  iprop(Pipeline.cellsGhost (kcfgs (F := F)) EP 0 d ∗ Pipeline.toksInit (kcfgs (F := F)) EP 0 d)

theorem fund_deal : BI.own (EP (initOf (Pipeline.cells (kcfgs (F := F)) kinj) (Pipeline.launchToks (kcfgs (F := F)) kinj)))
    ⊢ (iprop(|==> bigSep Finset.univ deal) : sProp 𝕄) := by
  refine (Pipeline.fund_ghost (kcfgs (F := F)) EP kinj).trans ?_
  rw [show (bigSep Finset.univ fun c : Dev nD => bigSep Finset.univ fun p => Pipeline.cellsGhost (kcfgs (F := F)) EP p c)
      = (bigSep Finset.univ fun c : Dev nD => Pipeline.cellsGhost (kcfgs (F := F)) EP 0 c : sProp 𝕄) from
    bigSep_congr fun _ _ => bigSep_univ_of_subsingleton (0 : Fin 1),
    show (bigSep Finset.univ fun c : Dev nD => bigSep Finset.univ fun p => Pipeline.toksInit (kcfgs (F := F)) EP p c)
      = (bigSep Finset.univ fun c : Dev nD => Pipeline.toksInit (kcfgs (F := F)) EP 0 c : sProp 𝕄) from
    bigSep_congr fun _ _ => bigSep_univ_of_subsingleton (0 : Fin 1), ← bigSep_sep']
  exact BI.Entails.refl _

variable (m : (ℓ : Loc nD τ sig) → Buf (Elt F) ℓ) (ρ : Dev nD → PrngReg)

/-! ## The contents after each statement -/

abbrev op1 : HloOp τ sig (Elt F) := StableHlo.reshape main_arg1 main_v0 (rfl : (.i32 : EltTy) = .i32) shapeCasts_S8x256_S2048
abbrev op2 : HloOp τ sig (Elt F) := StableHlo.reshape main_arg0 main_v1 (rfl : (.f32 : EltTy) = .f32) shapeCasts_S8x256x32000_S65536000
abbrev op3 : HloOp τ sig (Elt F) := StableHlo.reshape main_arg0 main_v3 (rfl : (.f32 : EltTy) = .f32) shapeCasts_S8x256x32000_S2048x32000
abbrev op4 : HloOp τ sig (Elt F) := StableHlo.reshape main_v0 main_v4 (rfl : (.i32 : EltTy) = .i32) shapeCasts_S2048_S16x1x128
abbrev op5 : HloOp τ sig (Elt F) := StableHlo.reshape main_v5 main_v6 (rfl : (.f32 : EltTy) = .f32) shapeCasts_S1x1_S_

/-- A TensorCore reference as the device's. -/
abbrev dr (b : Ref sig .tc) : DevRef τ sig := Proc.devRef .tc b

/-- At launch; after the two reshapes; after the call; after the next two; after the region; at the end. -/
def Va (d : Dev nD) : Valuation τ sig (Elt F) := fun b => m (d, b)
def Vc (d : Dev nD) : Valuation τ sig (Elt F) := op2.result (op1.result (Va m d))
/-- The flat labels and logits the call is given, and the result array as it finds it. -/
def flatL (d : Dev nD) : Buf (Elt F) (lLoc d) := Vc m d (dr main_v0)
def flatX (d : Dev nD) : Buf (Elt F) (xLoc d) := Vc m d (dr main_v1)
def found (d : Dev nD) : Buf (Elt F) (oLoc d) := Vc m d (dr main_v2)
def Vd (d : Dev nD) : Valuation τ sig (Elt F) := Function.update (Vc m d) (dr main_v2) (outVal (flatX m d) (flatL m d))
def Ve (d : Dev nD) : Valuation τ sig (Elt F) := op4.result (op3.result (Vd m d))
/-- The same read at the TensorCore's references: what the region is entered with. -/
def Vr (c : Dev nD) (b : Ref sig .tc) : Buf (Elt F) ((c : Thread nD τ).loc b) := Ve m c (dr b)
def Vf (d : Dev nD) : Valuation τ sig (Elt F) := Function.update (Ve m d) (dr main_v5) (fun _ => total (Vr m) d)
def Vg (d : Dev nD) : Valuation τ sig (Elt F) := op5.result (Vf m d)

abbrev uc : Finset (DevRef τ sig) := Pipeline.ucRefs τ sig

theorem held_uc (d : Dev nD) (W : Valuation τ sig (Elt F)) :
    (unscopedBufs d (fun b => W b) : sProp 𝕄) = StableHlo.held (d : Thread nD τ) uc W := Pipeline.unscopedBufs_held d W

/-- The three buffers of the call. -/
def three : Finset (DevRef τ sig) := {dr main_v0, dr main_v1, dr main_v2}
theorem three_sub : three ⊆ uc := by
  intro b hb
  simp only [three, Finset.mem_insert, Finset.mem_singleton] at hb
  rcases hb with rfl | rfl | rfl <;>
    exact Finset.mem_filter.mpr ⟨StableHlo.devRef_mem_tcRefs _, by decide⟩

theorem held_three (d : Dev nD) (W : Valuation τ sig (Elt F)) : (StableHlo.held (d : Thread nD τ) three W : sProp 𝕄)
    = iprop((lLoc d ↦{fullShare} W (dr main_v0)) ∗ (xLoc d ↦{fullShare} W (dr main_v1)) ∗ oLoc d ↦{fullShare} W (dr main_v2)) := by
  unfold StableHlo.held three
  rw [SparseCore.bigSep_insert' (by decide), SparseCore.bigSep_insert' (by decide), bigSep_singleton]

/-- Off the call's three buffers nothing changes; -/
theorem held_rest_call (d : Dev nD) : (StableHlo.held (d : Thread nD τ) (uc \ three) (Vc m d) : sProp 𝕄) = StableHlo.held (d : Thread nD τ) (uc \ three) (Vd m d) :=
  StableHlo.held_congr _ fun b hb => by
    unfold Vd
    rw [Function.update_of_ne]
    rintro rfl
    exact (Finset.mem_sdiff.mp hb).2 (by simp [three])
theorem Vd_v0 (d : Dev nD) : Vd m d (dr main_v0) = flatL m d := Function.update_of_ne (by decide) _ _
theorem Vd_v1 (d : Dev nD) : Vd m d (dr main_v1) = flatX m d := Function.update_of_ne (by decide) _ _
theorem Vd_v2 (d : Dev nD) : Vd m d (dr main_v2) = outVal (flatX m d) (flatL m d) := Function.update_self _ _ _

/-- The call's payments at this launch. -/
abbrev PP : (K (F := F)).Pay (nD := nD) (Val := Elt F) (Name := ℕ) (U := UU) := P (flatL m) (flatX m) (found m)

/-! ## The region's contents -/

def Vh (c : Dev nD) (b : Ref sig .tc) : Buf (Elt F) ((c : Thread nD τ).loc b) := Vf m c (dr b)
theorem Vh_out (c : Dev nD) : Vh m c main_v5 = fun _ => total (Vr m) c := by unfold Vh Vf; exact Function.update_self _ _ _
theorem Vh_ne (c : Dev nD) (b : Ref sig .tc) (hb : b ≠ main_v5) : Vh m c b = Vr m c b :=
  Function.update_of_ne (StableHlo.devRef_ne_of_ne hb) _ _

abbrev theReg := reg (Vr m) (Vh m) (Vh_out m) (Vh_ne m)

/-- What @main leaves: every buffer at its last contents. -/
abbrev FIN (d : Dev nD) : sProp 𝕄 := StableHlo.held (d : Thread nD τ) uc (Vg m d)

theorem sub_uc (op : HloOp τ sig (Elt F)) (h : op.bufs ⊆ StableHlo.tcRefs τ sig) : op.bufs ⊆ uc := Pipeline.sub_ucRefs op h

/-! ## @main -/

/-- The region's call, as the region's own table has it and as @main has it. -/
abbrev enter : Prog (TpuEff nD τ sig (Elt F) (ΛP (F := F)) .tc) PUnit := .op (.customCall (Pipeline.entry 0) ()) Prog.ret
abbrev enterMain : Prog (TpuEff nD τ sig (Elt F) (SparseCore.Sig (ΛP (F := F)) 1) .tc) PUnit := Prog.lift (.customCall (SparseCore.inner (Pipeline.entry 0)) ())
theorem enter_lift : SparseCore.liftProg (enter (F := F)) = enterMain := rfl

/-- The region's call inside @main. -/
theorem region_run [∀ e, Nonempty (Elt F e)] (κ : GSem nD τ sig → ℕ) (d : Dev nD) (Φ : PUnit → sProp 𝕄) :
    iprop((K (F := F)).ctx EH (PP m) κ ∗ boundary (T d : Thread nD τ) ∗ StableHlo.held (T d : Thread nD τ) uc (Ve m d) ∗ calm (F := F) d ∗ deal (F := F) d
        ∗ (iprop(boundary (T d : Thread nD τ) ∗ StableHlo.held (T d : Thread nD τ) uc (Vf m d) ∗ calm (F := F) d) -∗ Φ ⟨⟩))
      ⊢ wp frame (wpE ((K (F := F)).defs (D (F := F))) 𝒱 (T d) none) Set.univ enterMain Φ := by
  rw [← enter_lift]
  refine BI.Entails.trans ?_ ((K (F := F)).wp_liftProg (D (F := F)) 𝒱 (T d) Set.univ none enter Φ)
  have h : iprop((iprop(boundary (T d : Thread nD τ) ∗ iprop(unscopedBufs d (fun b => Vf m d b) ∗ calm (F := F) d)) -∗ wp frame (wpE (D (F := F)) 𝒱 (T d) none) Set.univ (Prog.ret PUnit.unit) Φ)
        ∗ boundary (T d : Thread nD τ) ∗ iprop(unscopedBufs d (fun b => Ve m d b) ∗ calm (F := F) d) ∗ levAts (K (F := F)).L (K (F := F)).lev
        ∗ Pipeline.cellsGhost (kcfgs (F := F)) EP 0 d ∗ Pipeline.toksInit (kcfgs (F := F)) EP 0 d)
      ⊢ (wp frame (wpE (D (F := F)) 𝒱 (T d) none) Set.univ enter Φ : sProp 𝕄) :=
    Pipeline.RegionSeg.wp (pcfgs (F := F)) adm (pdats (Vr m)) (none : HIx 1) kinj EP defs₀ Variants.none (K (F := F)).L (K (F := F)).lev
      (theReg m) d none (fun _ hu => by cases hu) Prog.ret Φ
  refine BI.Entails.trans ?_ h
  rw [held_uc, held_uc]
  change (_ : sProp 𝕄) ⊢ _
  unfold deal
  iintro ⟨Hctx, Hb, Hh, Hc, ⟨Hg, Ht⟩, Hk⟩
  isplitl [Hk]
  · iintro ⟨Hb, Hh, Hc⟩
    rw [wp_ret]; imodintro
    iapply Hk
    isplitl [Hb]; · iexact Hb
    isplitl [Hh] <;> iassumption
  isplitl [Hb]; · iexact Hb
  isplitl [Hh Hc]; · isplitl [Hh] <;> iassumption
  isplitl [Hctx]; · iapply (SparseCore.Cfg.ctx_levAts κ); iexact Hctx
  isplitl [Hg] <;> iassumption

/-- @main on device `d`'s TensorCore. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ deal (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = (StableHlo.held (d : Thread nD τ) uc (Va m d) : sProp 𝕄) from held_uc d (Va m d)]
  simp only [main, wp_bind, wp_pure]
  iintro ⟨#Hctx, Hst, ⟨Hb, Hh, Hts, -⟩, Hdeal⟩
  -- the first two reshapes
  iapply (StableHlo.wp_hlo_within 𝒱 (SparseCore.T d) none Set.univ (op := op1) (sub_uc op1 (StableHlo.reshape_bufs_sub ..)) (V := Va m d)) $$ [Hb Hh]
  · isplitl [Hb] <;> iassumption
  iintro ⟨Hb, Hh⟩
  rw [wp_ret]; imodintro
  iapply (StableHlo.wp_hlo_within 𝒱 (SparseCore.T d) none Set.univ (op := op2) (sub_uc op2 (StableHlo.reshape_bufs_sub ..)) (V := op1.result (Va m d))) $$ [Hb Hh]
  · isplitl [Hb] <;> iassumption
  iintro ⟨Hb, Hh⟩
  rw [wp_ret]; imodintro
  -- the call
  ihave Hh := (Entails.of_eq (show (StableHlo.held (SparseCore.T d : Thread nD τ) uc (op2.result (op1.result (Va m d))) : sProp 𝕄)
    = iprop(iprop((lLoc d ↦{fullShare} flatL m d) ∗ (xLoc d ↦{fullShare} flatX m d) ∗ oLoc d ↦{fullShare} found m d)
        ∗ StableHlo.held (d : Thread nD τ) (uc \ three) (Vd m d)) by
      rw [← held_rest_call]; exact (StableHlo.held_sub_split (d : Thread nD τ) three_sub (Vc m d)).trans (congrArg (fun A => iprop(A ∗ _)) (held_three d (Vc m d))))) $$ Hh
  icases Hh with ⟨Hthree, Hrest⟩
  iapply ((K (F := F)).wp_run (D (F := F)) 𝒱 (EH := EH) (P := PP m) κ d 0)
  isplitr; · iexact Hctx
  isplitl [Hst]; · iexact Hst
  isplitl [Hthree]
  · iapply (Entails.of_eq (st0_eq (flatL m) (flatX m) (found m) d).symm); iexact Hthree
  iintro ⟨Hst, Hdn⟩
  ihave Hthree := (Entails.of_eq (dn0_eq (flatL m) (flatX m) (found m) d)) $$ Hdn
  ihave Hh := (Entails.of_eq (show iprop(iprop((lLoc d ↦{fullShare} flatL m d) ∗ (xLoc d ↦{fullShare} flatX m d) ∗ oLoc d ↦{fullShare} outVal (flatX m d) (flatL m d))
        ∗ StableHlo.held (d : Thread nD τ) (uc \ three) (Vd m d)) = (StableHlo.held (SparseCore.T d : Thread nD τ) uc (Vd m d) : sProp 𝕄) by
      rw [← Vd_v2 m d, ← Vd_v0 m d, ← Vd_v1 m d]
      exact ((StableHlo.held_sub_split (d : Thread nD τ) three_sub (Vd m d)).trans (congrArg (fun A => iprop(A ∗ _)) (held_three d (Vd m d)))).symm)) $$ [Hthree Hrest]
  · isplitl [Hthree] <;> iassumption
  -- the next two reshapes
  iapply (StableHlo.wp_hlo_within 𝒱 (SparseCore.T d) none Set.univ (op := op3) (sub_uc op3 (StableHlo.reshape_bufs_sub ..)) (V := Vd m d)) $$ [Hb Hh]
  · isplitl [Hb] <;> iassumption
  iintro ⟨Hb, Hh⟩
  rw [wp_ret]; imodintro
  iapply (StableHlo.wp_hlo_within 𝒱 (SparseCore.T d) none Set.univ (op := op4) (sub_uc op4 (StableHlo.reshape_bufs_sub ..)) (V := op3.result (Vd m d))) $$ [Hb Hh]
  · isplitl [Hb] <;> iassumption
  iintro ⟨Hb, Hh⟩
  rw [wp_ret]; imodintro
  -- the region
  unfold SparseCore.Cfg.tcSt
  rw [show (K (F := F)).Otc d ((0 : Fin 1).val + 1) = 0 from (K (F := F)).Otc_end d (le_refl 1), show (K (F := F)).Otc d 1 = 0 from (K (F := F)).Otc_end d (le_refl 1)]
  icases Hst with ⟨HO, Hst⟩
  iapply (region_run m κ d _)
  isplitr; · iexact Hctx
  isplitl [Hb]; · iexact Hb
  isplitl [Hh]; · iexact Hh
  isplitl [HO]; · iexact HO
  isplitl [Hdeal]; · iexact Hdeal
  iintro ⟨Hb, Hh, HO⟩
  -- the last reshape
  iapply (StableHlo.wp_hlo_within 𝒱 (SparseCore.T d) none Set.univ (op := op5) (sub_uc op5 (StableHlo.reshape_bufs_sub ..)) (V := Vf m d)) $$ [Hb Hh]
  · isplitl [Hb] <;> iassumption
  iintro ⟨Hb, Hh⟩
  rw [wp_ret]; imodintro; imodintro
  isplitl [HO Hst]
  · isplitl [HO]; · iexact HO
    iexact Hst
  isplitl [Hh]; · iexact Hh
  isplitl [Hb] <;> iassumption

theorem no_pay : (bigSep Finset.univ fun _ : Thread nD τ => iprop(emp)) = (iprop(emp) : sProp 𝕄) := bigSep_emp_const _

theorem hu₀ : (ownU (u₀ (F := F)) : sProp 𝕄)
    ⊢ |={Set.univ}=> iprop(BI.own (EH (initOf (K (F := F)).hsCells (K (F := F)).hsToks)) ∗ (bigSep Finset.univ fun d : Dev nD => deal (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks) (initOf (Pipeline.cells (kcfgs (F := F)) kinj) (Pipeline.launchToks (kcfgs (F := F)) kinj), (1 : Counters))) $$ Hu
  icases H with ⟨HH, HR⟩
  ihave H := (own_pair_emb (embR : Emb (UR × Counters) 𝕄) (initOf (Pipeline.cells (kcfgs (F := F)) kinj) (Pipeline.launchToks (kcfgs (F := F)) kinj)) (1 : Counters)) $$ HR
  icases H with ⟨HR, -⟩
  ihave HR := (show BI.own (((Emb.inl : Emb UR (UR × Counters)).trans embR : Emb UR 𝕄) (initOf (Pipeline.cells (kcfgs (F := F)) kinj) (Pipeline.launchToks (kcfgs (F := F)) kinj))) ⊢ (iprop(|==> bigSep Finset.univ deal) : sProp 𝕄) from fund_deal) $$ HR
  imod HR with HR
  imodintro
  isplitl [HH]; · iexact HH
  isplitl [HR]; · iexact HR
  rw [show (bigSep Finset.univ fun thr : Thread nD τ => bigSep Finset.univ fun q : Fin 1 => (PP m).x q thr) = (bigSep Finset.univ fun _ => iprop(emp) : sProp 𝕄) from
    bigSep_congr fun _ _ => bigSep_univ_of_subsingleton (0 : Fin 1), no_pay]
  iempintro

/-! ## What the run leaves -/

/-- What the claims read: the two arguments and the result. -/
def fq (d : Dev nD) (s' : Phys nD τ sig (Elt F)) : Prop :=
  s'.mem.mem ((d : Thread nD τ).loc main_arg0) = Vg m d (dr main_arg0) ∧ s'.mem.mem ((d : Thread nD τ).loc main_arg1) = Vg m d (dr main_arg1)
    ∧ s'.mem.mem ((d : Thread nD τ).loc main_v6) = Vg m d (dr main_v6)

/-- One buffer of those held is what the memory has. -/
theorem held_agree (d : Dev nD) (s' : Phys nD τ sig (Elt F)) (b : Ref sig .tc) (hb : dr b ∈ uc) :
    iprop(FIN m d ∗ SI s') ⊢ (⌜s'.mem.mem ((d : Thread nD τ).loc b) = Vg m d (dr b)⌝ : sProp 𝕄) := by
  unfold FIN StableHlo.held
  rw [show uc = insert (dr b) (uc.erase (dr b)) from (Finset.insert_erase hb).symm, SparseCore.bigSep_insert' (Finset.notMem_erase _ _)]
  iintro ⟨⟨Hi, -⟩, HSI⟩
  ihave H := (SI_pointsTo_agree (st := s') (ℓ := (d : Thread nD τ).loc b) (I := Finset.univ) (q := fullShare) (f := Vg m d (dr b))) $$ [HSI Hi]
  · isplitl [HSI] <;> iassumption
  icases H with %h
  ipureintro; exact funext fun i => h i (Finset.mem_univ i)

theorem mem_uc (b : Ref sig .tc) (h : (dr b).isScoped = false) : dr b ∈ uc := Finset.mem_filter.mpr ⟨StableHlo.devRef_mem_tcRefs _, by simp [h]⟩

theorem hfin (d : Dev nD) (s' : Phys nD τ sig (Elt F)) : iprop(FIN m d ∗ SI s') ⊢ (⌜fq m d s'⌝ : sProp 𝕄) := by
  iintro H
  ihave H := (persistent_entails_right (held_agree m d s' main_arg0 (mem_uc _ rfl))) $$ H
  icases H with ⟨%h0, H⟩
  ihave H := (persistent_entails_right (held_agree m d s' main_arg1 (mem_uc _ rfl))) $$ H
  icases H with ⟨%h1, H⟩
  ihave H := (held_agree m d s' main_v6 (mem_uc _ rfl)) $$ H
  icases H with %h2
  ipureintro; exact ⟨h0, h1, h2⟩

/-- The arguments are as at launch. -/
theorem Vg_arg (d : Dev nD) (b : Ref sig .tc) (h0 : b ≠ main_v0) (h1 : b ≠ main_v1) (h2 : b ≠ main_v2) (h3 : b ≠ main_v3) (h4 : b ≠ main_v4)
    (h5 : b ≠ main_v5) (h6 : b ≠ main_v6) : Vg m d (dr b) = m (d, dr b) := by
  unfold Vg Vf Ve Vd Vc Va
  rw [StableHlo.reshape_result_ne (h := h6), Function.update_of_ne (StableHlo.devRef_ne_of_ne h5), StableHlo.reshape_result_ne (h := h4), StableHlo.reshape_result_ne (h := h3),
    Function.update_of_ne (StableHlo.devRef_ne_of_ne h2), StableHlo.reshape_result_ne (h := h1), StableHlo.reshape_result_ne (h := h0)]

/-- The result is the word the region ends at. -/
theorem Vg_out (d : Dev nD) : Vg m d (dr main_v6) = fun _ => total (Vr m) d := by
  unfold Vg
  rw [StableHlo.reshape_result]
  funext i
  unfold Vf
  rw [Function.update_self]
  rfl

/-- The run: it ends, the arguments unchanged, the result the word, every counter at zero. -/
theorem run_main [∀ e, Nonempty (Elt F e)] (hlab : LabelsOK (flatL m)) :
    θ_run (Cert.KernelIdeal.defs (F := F)) (Cert.KernelIdeal.threads (F := F)) ⟨m, fun _ => 0, ρ⟩ fun r =>
      (∀ d : Dev nD, r.2.mem ((d : Thread nD τ).loc main_arg0) = m ((d : Thread nD τ).loc main_arg0)
        ∧ r.2.mem ((d : Thread nD τ).loc main_arg1) = m ((d : Thread nD τ).loc main_arg1)
        ∧ r.2.mem ((d : Thread nD τ).loc main_v6) = fun _ => total (Vr m) d) ∧ r.2.sem = fun _ => 0 :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (flatL m) (flatX m) (found m) facts hlab)
    (fun q _ => match q with | 0 => SparseCore.Cfg.VecSplit.of_plain (vecSplit (flatL m) (flatX m) (found m)))
    m ρ main deal (FIN m) (u₀ (F := F)) (sep_elim_left.trans (hu₀ m)) (hmain m ρ) (fq m) (hfin m) _
    (fun _ h hz => ⟨fun d => ⟨(h d).1.trans (Vg_arg m d main_arg0 (by decide) (by decide) (by decide) (by decide) (by decide) (by decide) (by decide)),
      (h d).2.1.trans (Vg_arg m d main_arg1 (by decide) (by decide) (by decide) (by decide) (by decide) (by decide) (by decide)), (h d).2.2.trans (Vg_out m d)⟩, hz⟩)

end Cert.KernelIdeal.Tile

end
-- ==== Proof.IdealFrame.lean ====
/-
  THE FRAME of `KernelIdeal`: from the precondition to the run, and the run read at the arguments and the counters.
-/
module

public import proofs.«01_k».proof.Proof.IdealMain
public import proofs.«01_k».proof.Proof.Pre

@[expose] public section

noncomputable section

namespace Cert.KernelIdeal.Tile

open Cert.KernelIdeal Cert.KernelIdeal.Gen
open Idealize.ShloMosaic Idealize.ShloMosaic.TcCoe Idealize.SL.Sem

variable {F : FTy → Type} [FloatOps F] [Named F]

/-- The flat labels are the labels re-read, so they are below 32000 when those are. -/
theorem labels_ok (m : (ℓ : Loc nD τ sig) → Buf (Elt F) ℓ)
    (h : ∀ (d : Dev nD) (i : S8x256.Idx), ((m ((d : Thread nD τ).loc main_arg1) : S8x256.Idx → BitVec 32) i).toNat < 32000) : LabelsOK (flatL m) := by
  intro d j
  have e : flatL m d = shapeCast S2048 (m ((d : Thread nD τ).loc main_arg1) : S8x256.Idx → BitVec 32) shapeCasts_S8x256_S2048 := by
    unfold flatL Vc
    rw [StableHlo.reshape_result_ne (h := by decide), StableHlo.reshape_result]
    rfl
  rw [e]
  exact h d _

/-- `Cert.quiescent_KernelIdeal`. -/
theorem frame : Cert.quiescent_KernelIdeal := fun m ρ hpre =>
  (θ_run Cert.KernelIdeal.defs _ _).mono (fun _ h => ⟨fun d => ⟨(h.1 d).1, (h.1 d).2.1⟩, h.2⟩)
    (run_main m ρ (labels_ok m fun d i => Cert.Pre.labels_lt _ _ (hpre d) i))

end Cert.KernelIdeal.Tile

end
-- ==== Proof.Claims.lean ====
/-
  THE CLAIMS that are not the value: the frames of the three programs and the named constants.
-/
module

public import proofs.«01_k».proof.Proof.Frame
public import proofs.«01_k».proof.Proof.IdealFrame
public import proofs.«01_k».proof.Proof.Gen.ReferenceIdeal.Run
public import Idealize.ShloMosaic.Lib.Quiescent
public import Idealize.ShloMosaic.PureOps.IdealRules

@[expose] public section

noncomputable section

namespace Cert.Proof

open Idealize.ShloMosaic Idealize.ShloMosaic.TcCoe Idealize.SL.Sem

/-- `Cert.quiescent_KernelIdeal_pre_finite_in_vocab`: the frame again, the labels read off the stronger precondition. -/
theorem frame_finite : Cert.quiescent_KernelIdeal_pre_finite_in_vocab := fun m ρ hpre =>
  (θ_run Cert.KernelIdeal.defs _ _).mono (fun _ h => ⟨fun d => ⟨(h.1 d).1, (h.1 d).2.1⟩, h.2⟩)
    (Cert.KernelIdeal.Tile.run_main m ρ (Cert.KernelIdeal.Tile.labels_ok m fun d i => Cert.Pre.labels_lt' _ _ (hpre d) i))

/-- `Cert.quiescent_ReferenceIdeal`: the host operations leave the arguments; no semaphore is declared. -/
theorem frame_ref : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

/-- `Cert.quiescent_ReferenceIdeal_pre_finite_in_vocab`: the same run. -/
theorem frame_ref_finite : Cert.quiescent_ReferenceIdeal_pre_finite_in_vocab := fun m ρ _ =>
  (θ_run Cert.ReferenceIdeal.defs _ _).mono (fun r h => ⟨fun c => (h c).2, sem_eq_zero_of_no_sems rfl r.2⟩) (Cert.ReferenceIdeal.Value.run m ρ)

/-- `Cert.preserves_Kernel_KernelIdeal`: each named constant is the value the certificate's table gives it. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

end Cert.Proof

end
-- ==== Proof.IdealSums.lean ====
/-
  THE TENSORCORE REGION'S WORD over the reals: the sum of the SparseCore call's result, and over the sixteen blocks of rows
  the negated eps times the sums of the rows whose label is not 0.
-/
module

public import proofs.«01_k».proof.Proof.IdealEntry
public import Idealize.ShloMosaic.Lib.Pointwise
public import Idealize.ShloMosaic.PureOps.IdealRules
public import Idealize.ShloMosaic.Lib.Pipeline.ValueKit.Acc

@[expose] public section

noncomputable section

namespace Cert.KernelIdeal.Sums

open Cert.KernelIdeal Cert.KernelIdeal.Gen Cert.KernelIdeal.Tile
open Idealize.ShloMosaic Idealize.ShloMosaic.TcCoe

variable (V : (c : Dev nD) → (b : Ref sig .tc) → Buf (Elt Ideal) ((c : Thread nD τ).loc b))

/-- The first payload is the sum of all entries of its block. -/
theorem pay1_apply (v : S32x128.Idx → EReal) : k1_pay1 (F := Ideal) v = ∑ a : Fin 32, ∑ b : Fin 128, v (ix2 a b) := by
  unfold k1_pay1
  pointwise

/-- The constant of the second payload is -1/319980. -/
theorem neg_eps_eq : Named.named (F := Ideal) κ "neg_eps" (φ := .f32) 3058809458#32 = ((-1 / 319980 : ℝ) : EReal) :=
  IdealRules.named_const.ideal_named_scalar _ _ _ _ rfl

/-- The second payload adds -1/319980 times the sum of the rows whose label is not 0. -/
theorem pay2_apply (x : S128x32000.Idx → EReal) (l : IVec S1x1x128 32) (s : EReal) :
    k1_pay2 (F := Ideal) x l s = s + ((-1 / 319980 : ℝ) : EReal) *
      ∑ k : Fin 128, Scalar.select (IntOp.cmpi .ne (l (ix3 0 0 k)) 0#32) (∑ v : Fin 32000, x (ix2 k v)) 0 := by
  rw [← neg_eps_eq]
  unfold k1_pay2
  pointwise

/-- The block index of window 0. -/
theorem index_0 : ∀ t : Fin cfg1.N, win1_0.index t 0 = t.val ∧ win1_0.index t 1 = 0 := by decide +kernel

/-- The block index of window 1. -/
theorem index_1 : ∀ t : Fin cfg1.N, win1_1.index t 0 = t.val ∧ win1_1.index t 1 = 0 ∧ win1_1.index t 2 = 0 := by decide +kernel

/-- The block index of window 2. -/
theorem index_2 : ∀ t : Fin cfg1.N, win1_2.index t 0 = 0 ∧ win1_2.index t 1 = 0 := by decide +kernel

/-- Window 0 at point `t` reads rows `128 t ..` of the logits. -/
theorem xBlk_apply (c : Dev nD) (t : Fin cfg1.N) (k : Fin 128) (v : Fin 32000) (h : t.val * 128 + k.val < 2048) :
    xBlk V c t (ix2 k v) = (V c main_v3 : S2048x32000.Idx → EReal) (ix2 ⟨t.val * 128 + k.val, h⟩ v) := by
  show (V c main_v3 : S2048x32000.Idx → EReal) _ = _
  refine congrArg _ ?_
  funext a
  apply Fin.ext
  match a with
  | ⟨0, _⟩ =>
    refine (Pipeline.Window.rect_emb_val win1_0 t (ix2 k v) 0).trans ?_
    rw [(index_0 t).1]; rfl
  | ⟨1, _⟩ =>
    refine (Pipeline.Window.rect_emb_val_of_index_zero win1_0 t 1 (index_0 t).2 (ix2 k v)).trans ?_
    rfl

/-- Window 1 at point `t` reads row `t` of the labels. -/
theorem lBlk_apply (c : Dev nD) (t : Fin cfg1.N) (k : Fin 128) (h : t.val < 16) :
    lBlk V c t (ix3 0 0 k) = (V c main_v4 : S16x1x128.Idx → BitVec 32) (ix3 ⟨t.val, h⟩ 0 k) := by
  show (V c main_v4 : S16x1x128.Idx → BitVec 32) _ = _
  refine congrArg _ ?_
  funext a
  apply Fin.ext
  match a with
  | ⟨0, _⟩ =>
    refine (Pipeline.Window.rect_emb_val win1_1 t (ix3 0 0 k) 0).trans ?_
    rw [(index_1 t).1]
    show t.val * 1 + 0 = t.val
    omega
  | ⟨1, _⟩ =>
    refine (Pipeline.Window.rect_emb_val_of_index_zero win1_1 t 1 (index_1 t).2.1 (ix3 0 0 k)).trans ?_
    rfl
  | ⟨2, _⟩ =>
    refine (Pipeline.Window.rect_emb_val_of_index_zero win1_1 t 2 (index_1 t).2.2 (ix3 0 0 k)).trans ?_
    rfl

/-- Window 2 reads its whole array at every point. -/
theorem sBlk_apply (c : Dev nD) (t : Fin cfg1.N) (a : Fin 32) (b : Fin 128) :
    sBlk V c t (ix2 a b) = (V c main_v2 : S32x128.Idx → EReal) (ix2 a b) := by
  show (V c main_v2 : S32x128.Idx → EReal) _ = _
  refine congrArg _ ?_
  funext i
  apply Fin.ext
  match i with
  | ⟨0, _⟩ =>
    refine (Pipeline.Window.rect_emb_val_of_index_zero win1_2 t 0 (index_2 t).1 (ix2 a b)).trans ?_
    rfl
  | ⟨1, _⟩ =>
    refine (Pipeline.Window.rect_emb_val_of_index_zero win1_2 t 1 (index_2 t).2 (ix2 a b)).trans ?_
    rfl

/-- What one block of rows adds: -1/319980 times the sum of its rows whose label is not 0. -/
def blockTerm (X : ℕ → ℕ → ℝ) (L : ℕ → ℕ) (t : ℕ) : ℝ :=
  -1 / 319980 * ∑ k ∈ Finset.range 128, if L (t * 128 + k) = 0 then 0 else ∑ v ∈ Finset.range 32000, X (t * 128 + k) v

/-- The cast of the reals into the extended reals commutes with finite sums. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

section
variable (c : Dev nD) (X : ℕ → ℕ → ℝ) (L : ℕ → ℕ)
  (hx : ∀ (r : Fin 2048) (v : Fin 32000), (V c main_v3 : S2048x32000.Idx → EReal) (ix2 r v) = ((X r.val v.val : ℝ) : EReal))
  (hl : ∀ (t : Fin 16) (k : Fin 128), ((V c main_v4 : S16x1x128.Idx → BitVec 32) (ix3 t 0 k)).toNat = L (t.val * 128 + k.val))

include hx hl in
/-- The second payload at one point of the grid, over real logits. -/
theorem pay2_point (t : Fin cfg1.N) (s : ℝ) :
    k1_pay2 (F := Ideal) (xBlk V c t) (lBlk V c t) (s : EReal) = ((s + blockTerm X L t.val : ℝ) : EReal) := by
  have ht : t.val < 16 := lt_of_lt_of_eq t.isLt N_1
  rw [pay2_apply]
  have hrow : ∀ k : Fin 128, Scalar.select (IntOp.cmpi .ne (lBlk V c t (ix3 0 0 k)) 0#32)
      (∑ v : Fin 32000, xBlk V c t (ix2 k v)) 0
      = (((fun k : ℕ => if L (t.val * 128 + k) = 0 then (0 : ℝ) else ∑ v ∈ Finset.range 32000, X (t.val * 128 + k) v) k.val : ℝ) : EReal) := by
    intro k
    have hk : t.val * 128 + k.val < 2048 := by have := k.isLt; omega
    have hL := hl ⟨t.val, ht⟩ k
    rw [← lBlk_apply V c t k ht] at hL
    have hs : (∑ v : Fin 32000, xBlk V c t (ix2 k v)) = ((∑ v ∈ Finset.range 32000, X (t.val * 128 + k.val) v : ℝ) : EReal) := by
      rw [← Fin.sum_univ_eq_sum_range (fun v => X (t.val * 128 + k.val) v), coe_sum]
      refine Finset.sum_congr rfl fun v _ => ?_
      rw [xBlk_apply V c t k v hk, hx]
    rw [hs]
    by_cases h0 : lBlk V c t (ix3 0 0 k) = 0#32
    · have hz : L (t.val * 128 + k.val) = 0 := by rw [← hL, h0]; rfl
      rw [h0]
      simp only [hz, if_true]
      rfl
    · have hz : L (t.val * 128 + k.val) ≠ 0 := by
        rw [← hL]; intro h; exact h0 (BitVec.eq_of_toNat_eq h)
      simp only [hz, if_false]
      have hne : IntOp.cmpi .ne (lBlk V c t (ix3 0 0 k)) 0#32 = 1#1 := by
        show BitVec.ofBool (_ != _) = 1#1
        rw [bne_iff_ne.2 h0]; rfl
      rw [hne]; rfl
  rw [Finset.sum_congr rfl fun k _ => hrow k, ← coe_sum, Fin.sum_univ_eq_sum_range (fun k : ℕ => if L (t.val * 128 + k) = 0 then (0 : ℝ) else ∑ v ∈ Finset.range 32000, X (t.val * 128 + k) v) 128,
    ← EReal.coe_mul, ← EReal.coe_add]
  rfl

include hx hl in
/-- The accumulator after the points up to `n`. -/
theorem accAt_eq (S : ℝ) (hS : k1_pay1 (F := Ideal) (V c main_v2 : S32x128.Idx → EReal) = (S : EReal)) (n : ℕ) (h : n < cfg1.N) :
    accAt V c n h = ((S + ∑ t ∈ Finset.range (n + 1), blockTerm X L t : ℝ) : EReal) := by
  induction n with
  | zero =>
    have h1 : k1_pay1 (F := Ideal) (sBlk V c ⟨0, h⟩) = (S : EReal) := by
      rw [← hS, pay1_apply, pay1_apply]
      exact Finset.sum_congr rfl fun a _ => Finset.sum_congr rfl fun b _ => sBlk_apply V c _ a b
    show k1_pay2 (F := Ideal) (xBlk V c ⟨0, h⟩) (lBlk V c ⟨0, h⟩) (k1_pay1 (F := Ideal) (sBlk V c ⟨0, h⟩)) = _
    rw [h1, pay2_point V c X L hx hl]
    simp
  | succ n ih =>
    show k1_pay2 (F := Ideal) (xBlk V c ⟨n + 1, h⟩) (lBlk V c ⟨n + 1, h⟩) (accAt V c n (Nat.lt_of_succ_lt h)) = _
    rw [ih, pay2_point V c X L hx hl, Finset.sum_range_succ _ (n + 1), add_assoc]

end

end Cert.KernelIdeal.Sums

end
-- ==== Proof.IdealRows.lean ====
/-
  THE SPARSECORE CALL'S RESULT over the reals: its 32 x 128 entries sum to the sum over the 2048 rows of what each
  contributes.
-/
module

public import proofs.«01_k».proof.Proof.IdealSums

@[expose] public section

noncomputable section

namespace Cert.KernelIdeal.Sums

open Cert.KernelIdeal Cert.KernelIdeal.Gen Cert.KernelIdeal.Tile
open Idealize.ShloMosaic Idealize.ShloMosaic.TcCoe

/-- The entropy of a row's target. -/
def ent : ℝ := 1 / 10 * Real.log (129140163 / 106660000000000)

/-- What a row contributes on the SparseCore, from its label and its logits at the label and at column 0. -/
def rowTerm (l : ℕ) (a b : ℝ) : ℝ := if l = 0 then 0 else ent + 1 / 319980 * b - 287981 / 319980 * a

/-- The constant named eps. -/
theorem cEps_eq : (cEps (F := Ideal)) = ((1 / 319980 : ℝ) : EReal) := IdealRules.named_const.ideal_named_scalar _ _ _ _ rfl

/-- The constant named conf_less_eps. -/
theorem cConf_eq : (cConf (F := Ideal)) = ((287981 / 319980 : ℝ) : EReal) := IdealRules.named_const.ideal_named_scalar _ _ _ _ rfl

/-- The constant named entropy. -/
theorem cEnt_eq : (cEnt (F := Ideal)) = ((ent : ℝ) : EReal) := IdealRules.named_const.ideal_named_scalar _ _ _ _ rfl

/-- The zero. -/
theorem zeroF_eq : (zeroF (F := Ideal)) = ((0 : ℝ) : EReal) := by
  show Ideal.ofBits .f32 0x00000000#32 = _
  simp [Ideal.ofBits, Ideal.ieee]

/-- A row's contribution over real logits. -/
theorem contrib_eq (lab : BitVec 32) (a b : ℝ) : contrib (F := Ideal) lab (a : EReal) (b : EReal) = ((rowTerm lab.toNat a b : ℝ) : EReal) := by
  unfold contrib rowTerm
  rw [cEnt_eq, cEps_eq, cConf_eq, zeroF_eq]
  by_cases h0 : lab = 0#32
  · rw [h0]; rfl
  · have hne : IntOp.cmpi .ne lab 0#32 = 1#1 := by
      show BitVec.ofBool (_ != _) = 1#1
      rw [bne_iff_ne.2 h0]; rfl
    have hz : lab.toNat ≠ 0 := fun h => h0 (BitVec.eq_of_toNat_eq h)
    rw [hne, if_neg hz]
    show ((ent : ℝ) : EReal) + ((1 / 319980 : ℝ) : EReal) * (b : EReal) - ((287981 / 319980 : ℝ) : EReal) * (a : EReal) = _
    rw [← EReal.coe_mul, ← EReal.coe_mul, ← EReal.coe_add, ← EReal.coe_sub]

section
variable (x : S65536000.Idx → EReal) (lb : S2048.Idx → BitVec 32) (X : ℕ → ℕ → ℝ) (L : ℕ → ℕ)
  (hx : ∀ n v : ℕ, n < 2048 → v < 32000 → x (wordIx (n * 32000 + v)) = ((X n v : ℝ) : EReal))
  (hl : ∀ (n : ℕ) (h : n < 2048), (lb (ix2048 n h)).toNat = L n) (hL : ∀ n : ℕ, n < 2048 → L n < 32000)

include hx hl hL in
/-- The contribution of row `n` of task `w`. -/
theorem rowC_eq (w : Fin 32) (n : ℕ) (h : n < 64) :
    rowC (F := Ideal) (labsOf lb w) (xtOf (F := Ideal) x lb w) (x0Of (F := Ideal) x w) n h
      = ((rowTerm (L (w.val * 64 + n)) (X (w.val * 64 + n) (L (w.val * 64 + n))) (X (w.val * 64 + n) 0) : ℝ) : EReal) := by
  have hw := w.isLt
  have hn : 64 * w.val + n < 2048 := by omega
  have e1 : labsOf lb w (ix64 n h) = lb (ix2048 (64 * w.val + n) hn) := rfl
  have e2 : xtOf (F := Ideal) x lb w (ix64 n h) = x (wordIx ((64 * w.val + n) * 32000 + (lb (ix2048 (64 * w.val + n) hn)).toNat)) := rfl
  have e3 : x0Of (F := Ideal) x w (ix64 n h) = x (wordIx ((64 * w.val + n) * 32000)) := rfl
  have e4 := hx _ 0 hn (by omega)
  rw [Nat.add_zero] at e4
  unfold rowC
  rw [e1, e2, e3, e4, hl, hx _ _ hn (hL _ hn), contrib_eq, hl, Nat.mul_comm 64 w.val]

/-- The entry at row `a`, column `b` of the result. -/
def entry (X : ℕ → ℕ → ℝ) (L : ℕ → ℕ) (a b : ℕ) : ℝ :=
  if b < 16 then (((0 + rowTerm (L (a * 64 + (0 + b))) (X (a * 64 + (0 + b)) (L (a * 64 + (0 + b)))) (X (a * 64 + (0 + b)) 0))
    + rowTerm (L (a * 64 + (16 + b))) (X (a * 64 + (16 + b)) (L (a * 64 + (16 + b)))) (X (a * 64 + (16 + b)) 0))
    + rowTerm (L (a * 64 + (32 + b))) (X (a * 64 + (32 + b)) (L (a * 64 + (32 + b)))) (X (a * 64 + (32 + b)) 0))
    + rowTerm (L (a * 64 + (48 + b))) (X (a * 64 + (48 + b)) (L (a * 64 + (48 + b)))) (X (a * 64 + (48 + b)) 0) else 0

include hx hl hL in
/-- An entry of the result over real logits. -/
theorem outVal_apply (a : Fin 32) (b : Fin 128) : outVal (F := Ideal) x lb (ix2 a b) = ((entry X L a.val b.val : ℝ) : EReal) := by
  have e : outVal (F := Ideal) x lb (ix2 a b) = if h : b.val < 16 then
      lanes (F := Ideal) (labsOf lb a) (xtOf (F := Ideal) x lb a) (x0Of (F := Ideal) x a) (ix16 b.val h) else zeroF := rfl
  rw [e]
  unfold entry
  by_cases h : b.val < 16
  · rw [dif_pos h, if_pos h]
    show (((zeroF (F := Ideal) + rowC (F := Ideal) _ _ _ (0 + b.val) (by omega)) + rowC (F := Ideal) _ _ _ (16 + b.val) (by omega))
      + rowC (F := Ideal) _ _ _ (32 + b.val) (by omega) + rowC (F := Ideal) _ _ _ (48 + b.val) (by omega) : EReal) = _
    rw [zeroF_eq, rowC_eq x lb X L hx hl hL, rowC_eq x lb X L hx hl hL, rowC_eq x lb X L hx hl hL, rowC_eq x lb X L hx hl hL,
      ← EReal.coe_add, ← EReal.coe_add, ← EReal.coe_add, ← EReal.coe_add]
  · rw [dif_neg h, if_neg h, zeroF_eq]

/-- One row of the entries sums to the contributions of its 64 rows. -/
theorem entry_row (a : ℕ) : ∑ b ∈ Finset.range 128, entry X L a b
    = ∑ k ∈ Finset.range 64, rowTerm (L (a * 64 + k)) (X (a * 64 + k) (L (a * 64 + k))) (X (a * 64 + k) 0) := by
  have h1 : ∑ b ∈ Finset.range 16, entry X L a b = ∑ b ∈ Finset.range 128, entry X L a b :=
    Finset.sum_subset (Finset.range_subset_range.2 (by norm_num)) fun b _ hb => by
      rw [Finset.mem_range] at hb
      exact if_neg hb
  have h2 := Finset.sum_range_mul_split 4 16 fun k => rowTerm (L (a * 64 + k)) (X (a * 64 + k) (L (a * 64 + k))) (X (a * 64 + k) 0)
  have four : ∀ f : ℕ → ℝ, ∑ k ∈ Finset.range 4, f k = f 0 + f 1 + f 2 + f 3 := fun f => by
    rw [Finset.sum_range_succ, Finset.sum_range_succ, Finset.sum_range_succ, Finset.sum_range_succ, Finset.sum_range_zero, zero_add]
  rw [four, ← Finset.sum_add_distrib, ← Finset.sum_add_distrib, ← Finset.sum_add_distrib] at h2
  rw [← h1]
  refine Eq.trans (Finset.sum_congr rfl fun b hb => ?_) h2.symm
  unfold entry
  rw [if_pos (Finset.mem_range.1 hb), zero_add, Nat.zero_mul, Nat.one_mul]

include hx hl hL in
/-- The entries of the result sum to the contributions of the 2048 rows. -/
theorem outVal_sum : k1_pay1 (F := Ideal) (outVal (F := Ideal) x lb)
    = ((∑ n ∈ Finset.range 2048, rowTerm (L n) (X n (L n)) (X n 0) : ℝ) : EReal) := by
  rw [pay1_apply]
  have h : ∀ a : Fin 32, ∑ b : Fin 128, outVal (F := Ideal) x lb (ix2 a b) = ((∑ b ∈ Finset.range 128, entry X L a.val b : ℝ) : EReal) := fun a => by
    rw [← Fin.sum_univ_eq_sum_range (fun b => entry X L a.val b), coe_sum]
    exact Finset.sum_congr rfl fun b _ => outVal_apply x lb X L hx hl hL a b
  rw [Finset.sum_congr rfl fun a _ => h a, ← coe_sum, Fin.sum_univ_eq_sum_range (fun a => ∑ b ∈ Finset.range 128, entry X L a b)]
  refine congrArg Real.toEReal ?_
  rw [Finset.sum_congr rfl fun a _ => entry_row X L a]
  exact Finset.sum_range_range_mul_add 32 64 fun n => rowTerm (L n) (X n (L n)) (X n 0)

end

end Cert.KernelIdeal.Sums

end
-- ==== Proof.RefTarget.lean ====
/-
  THE REFERENCE'S SMOOTHED TARGET, read at an entry: the two scatters and the select over the padding rows. Row `r`,
  column `v` holds 0 in a row whose label is 0, else 9/10 at the label, 0 at column 0 and eps anywhere else.
-/
module

public import proofs.«01_k».proof.Proof.Gen.ReferenceIdeal.Run
public import Idealize.ShloMosaic.Lib.Pointwise
public import Idealize.ShloMosaic.Lib.Routing.OpsOne
public import Idealize.ShloMosaic.Lib.Pipeline.ValueKit.Acc

@[expose] public section

noncomputable section

namespace Cert.ReferenceIdeal.Sums

open Cert.ReferenceIdeal Cert.ReferenceIdeal.Facts₀
open Idealize.ShloMosaic Idealize.ShloMosaic.Routing

/-- The dimension numbers of the scatter of one word per row, at a pair of a row and a column. -/
abbrev dPair : ScatterDims S2048x32000 S2048x2 S2048 := scatter_S2048x32000_S2048x2_S2048_n_01_01_1
/-- The dimension numbers of the scatter of one column. -/
abbrev dCol : ScatterDims S2048x32000 S1 S2048 := scatter_S2048x32000_S1_S2048_0_1_1_0

/-- Update `n` of the first lands at the row and the column its two words, read signed, name. -/
theorem lands_pair (idx : IVec S2048x2 32) (n r : Fin 2048) (v : Fin 32000) :
    dPair.resultIdx? (ix1 n) idx = some (ix2 r v) ↔ (idx (ix2 n (0 : Fin 2))).toInt = r.val ∧ (idx (ix2 n (1 : Fin 2))).toInt = v.val := by
  have hw : ∀ q : Fin 2, dPair.window (ix1 n) q = 0 := fun q => by
    unfold ScatterDims.window
    rw [dif_neg (by revert q; decide)]
  have hs : ∀ q : Fin 2, dPair.start (ix1 n) idx q = (idx (ix2 n q)).toInt := fun q => by
    unfold ScatterDims.start
    have hm : q ∈ dPair.scatterDimsToOperandDims := by revert q; decide
    rw [dif_pos hm]
    congr 2
    funext b
    fin_cases q <;> fin_cases b <;> rfl
  rw [ix2_eq_valueIdx r v, resultIdx?_ix2, hw, hw, hs, hs]
  simp

/-- An update of the second lands at the entries of its own row in the column its word names; here column 0. -/
theorem lands_zero (idx : IVec S1 32) (h : (idx (ix1 (0 : Fin 1))).toInt = 0) (n r : Fin 2048) (v : Fin 32000) :
    dCol.resultIdx? (ix1 n) idx = some (ix2 r v) ↔ n = r ∧ v = 0 := by
  rw [ix2_eq_valueIdx r v, ix1_eq_valueIdx n]
  exact lands_col dCol rfl rfl idx 0 (by rw [← ix1_eq_valueIdx]; exact h) n r v

/-- The words of the pairs: the row's number and its label, each wrapped where negative. -/
def pairs (l : IVec S2048 32) : IVec S2048x2 32 :=
  concatenate S2048x2 1 [⟨S2048x1, broadcastInDim S2048x1 ![0] bcast_S2048_S2048x1_0 (select (cmpi .slt (iotaInDim S2048 32 0) (broadcastInDim S2048 ![] bcast_S_S2048 (constantI S_ 32 0#32))) (addi (iotaInDim S2048 32 0) (broadcastInDim S2048 ![] bcast_S_S2048 (constantI S_ 32 2048#32))) (iotaInDim S2048 32 0))⟩,
    ⟨S2048x1, broadcastInDim S2048x1 ![0] bcast_S2048_S2048x1_0 (select (cmpi .slt l (broadcastInDim S2048 ![] bcast_S_S2048 (constantI S_ 32 0#32))) (addi l (broadcastInDim S2048 ![] bcast_S_S2048 (constantI S_ 32 32000#32))) l)⟩] concatenates_S2048x1_S2048x1_S2048x2_d1

/-- The first word of pair `n` is `n`; -/
theorem pairs_row (l : IVec S2048 32) (n : Fin 2048) : pairs l (ix2 n (0 : Fin 2)) = BitVec.ofNat 32 n.val := by
  unfold pairs
  pointwise
  exact wrap_of_lt _ _ (by rw [BitVec.toNat_ofNat]; have := n.isLt; omega)
/-- the second is row `n`'s label. -/
theorem pairs_label (l : IVec S2048 32) (n : Fin 2048) (h : (l (ix1 n)).toNat < 32000) : pairs l (ix2 n (1 : Fin 2)) = l (ix1 n) := by
  unfold pairs
  pointwise
  exact wrap_of_lt _ _ (by omega)

/-- Whether a row's label is the padding, over the whole array. -/
def padded (l : IVec S2048 32) : IVec S2048x32000 1 :=
  broadcastInDim S2048x32000 ![0, 1] bcast_S2048x1_S2048x32000_0_1 (broadcastInDim S2048x1 ![0] bcast_S2048_S2048x1_0 (cmpi .eq l (broadcastInDim S2048 ![] bcast_S_S2048 (constantI S_ 32 0#32))))

/-- One tenth over 31998. -/
def eps : FVec Ideal S_ .f32 := Host.divf (Host.divf (constant S_ .f32 0x3F800000#32) (constant S_ .f32 0x41200000#32)) (constant S_ .f32 0x46F9FC00#32)
/-- One less one tenth. -/
def conf : FVec Ideal S_ .f32 := subf (constant S_ .f32 0x3F800000#32) (Host.divf (constant S_ .f32 0x3F800000#32) (constant S_ .f32 0x41200000#32))

theorem ten : Ideal.ofBits .f32 0x41200000#32 = ((10 : ℝ) : EReal) := by simp [Ideal.ofBits, Ideal.ieee, -EReal.coe_mul]; norm_num
theorem one : Ideal.ofBits .f32 0x3F800000#32 = ((1 : ℝ) : EReal) := by simp [Ideal.ofBits, Ideal.ieee, -EReal.coe_mul]; norm_num
theorem others : Ideal.ofBits .f32 0x46F9FC00#32 = ((31998 : ℝ) : EReal) := by simp [Ideal.ofBits, Ideal.ieee, -EReal.coe_mul]; norm_num

theorem eps_apply (j : S_.Idx) : eps j = ((1 / 319980 : ℝ) : EReal) := by
  show Ideal.div (Ideal.div (Ideal.ofBits .f32 0x3F800000#32) (Ideal.ofBits .f32 0x41200000#32)) (Ideal.ofBits .f32 0x46F9FC00#32) = _
  rw [one, ten, others, Ideal.div_coe (by norm_num), Ideal.div_coe (by norm_num), ← EReal.coe_mul, ← EReal.coe_mul]
  norm_num
theorem conf_apply (j : S_.Idx) : conf j = ((9 / 10 : ℝ) : EReal) := by
  show Ideal.ofBits .f32 0x3F800000#32 - Ideal.div (Ideal.ofBits .f32 0x3F800000#32) (Ideal.ofBits .f32 0x41200000#32) = _
  rw [one, ten, Ideal.div_coe (by norm_num), ← EReal.coe_mul, ← EReal.coe_sub]
  norm_num

/-- The first scatter's result: eps, and zero down column 0. -/
def uniform : FVec Ideal S2048x32000 .f32 :=
  Host.scatter dCol (fun _ b => b) (broadcastInDim S2048x32000 ![] bcast_S_S2048x32000 eps) (broadcastInDim S1 ![] bcast_S_S1 (constantI S_ 32 0#32)) (broadcastInDim S2048 ![] bcast_S_S2048 (constant S_ .f32 0x00000000#32))

/-- The smoothed target. -/
def target (l : IVec S2048 32) : FVec Ideal S2048x32000 .f32 :=
  select (padded l) (broadcastInDim S2048x32000 ![] bcast_S_S2048x32000 (id (constant S_ .f32 0x00000000#32)))
    (Host.scatter dPair (fun _ b => b) uniform (pairs l) (broadcastInDim S2048 ![] bcast_S_S2048 conf))

theorem eq_one {n : ℕ} (j : (⟨1, ![n]⟩ : Shape).Idx) : ∃ a : Fin n, j = ix1 a := ⟨j 0, by funext b; fin_cases b; rfl⟩

theorem uniform_apply (r : Fin 2048) (v : Fin 32000) : uniform (ix2 r v) = if v = 0 then ((0 : ℝ) : EReal) else ((1 / 319980 : ℝ) : EReal) := by
  unfold uniform
  split
  · next h =>
    subst h
    refine scatter_set_hit _ _ _ _ _ _ (fun k _ => ?_) (ix1 r) ((lands_zero _ rfl r r 0).2 ⟨rfl, rfl⟩)
    pointwise
    simp
  · next h =>
    rw [scatter_set_miss]
    · exact eps_apply _
    · intro k hk
      obtain ⟨n, rfl⟩ := eq_one k
      exact h ((lands_zero _ rfl n r v).1 hk).2

/-- What the smoothed target holds in a row of label `l`, at column `v`. -/
def tgt (l v : ℕ) : ℝ := if l = 0 then 0 else if v = l then 9 / 10 else if v = 0 then 0 else 1 / 319980

theorem toInt_small (w : BitVec 32) (h : w.toNat < 2147483648) : w.toInt = w.toNat := by
  rw [BitVec.toInt_eq_toNat_cond, if_pos (by omega)]

/-- The target at an entry. -/
theorem target_apply (l : IVec S2048 32) (hl : ∀ n : Fin 2048, (l (ix1 n)).toNat < 32000) (r : Fin 2048) (v : Fin 32000) :
    target l (ix2 r v) = ((tgt (l (ix1 r)).toNat v.val : ℝ) : EReal) := by
  have hp : padded l (ix2 r v) = IntOp.cmpi .eq (l (ix1 r)) 0#32 := by unfold padded; pointwise
  have hr : ∀ n : Fin 2048, (pairs l (ix2 n (0 : Fin 2))).toInt = n.val := fun n => by
    rw [pairs_row, toInt_small _ (by rw [BitVec.toNat_ofNat]; have := n.isLt; omega), BitVec.toNat_ofNat]
    have := n.isLt; omega
  have hc : ∀ n : Fin 2048, (pairs l (ix2 n (1 : Fin 2))).toInt = (l (ix1 n)).toNat := fun n => by
    rw [pairs_label l n (hl n), toInt_small _ (by have := hl n; omega)]
  unfold target
  show Scalar.select (padded l (ix2 r v)) (Ideal.ofBits .f32 0x00000000#32) (Host.scatter dPair (fun _ b => b) uniform (pairs l) (broadcastInDim S2048 ![] bcast_S_S2048 conf) (ix2 r v)) = _
  rw [hp]
  unfold tgt
  by_cases h0 : (l (ix1 r)).toNat = 0
  · have h0' : l (ix1 r) = 0#32 := BitVec.eq_of_toNat_eq h0
    rw [if_pos h0, h0']
    simp [Scalar.select, IntOp.cmpi, Ideal.ofBits, Ideal.ieee]
  · have h0' : l (ix1 r) ≠ 0#32 := fun h => h0 (by rw [h]; rfl)
    rw [if_neg h0]
    have hs : ∀ a b : EReal, Scalar.select (IntOp.cmpi .eq (l (ix1 r)) 0#32) a b = b := fun a b => by
      simp [Scalar.select, IntOp.cmpi, beq_false_of_ne h0']
    rw [hs]
    by_cases hv : v.val = (l (ix1 r)).toNat
    · rw [if_pos hv]
      refine scatter_set_hit _ _ _ _ _ _ (fun k _ => ?_) (ix1 r) ((lands_pair _ r r v).2 ⟨hr r, by rw [hc, hv]⟩)
      exact conf_apply _
    · rw [if_neg hv, scatter_set_miss, uniform_apply]
      · have hz : v = 0 ↔ v.val = 0 := Fin.ext_iff
        simp only [hz]
        split <;> rfl
      · intro k hk
        obtain ⟨n, rfl⟩ := eq_one k
        obtain ⟨h1, h2⟩ := (lands_pair _ n r v).1 hk
        rw [hr] at h1; rw [hc] at h2
        obtain rfl : n = r := Fin.ext (by omega)
        omega

end Cert.ReferenceIdeal.Sums

end
-- ==== Proof.RefValue.lean ====
/-
  THE REFERENCE'S RESULT over the reals: the sum over the rows and columns of the target times the difference of its
  logarithm and the logit.
-/
module

public import proofs.«01_k».proof.Proof.RefTarget

@[expose] public section

noncomputable section

namespace Cert.ReferenceIdeal.Sums

open Cert.ReferenceIdeal Cert.ReferenceIdeal.Facts₀
open Idealize.ShloMosaic Idealize.ShloMosaic.Routing Idealize.ShloMosaic.TcCoe Idealize.SL.Sem

/-- The loss of every entry, of the logits and the target. -/
def kl (x t : FVec Ideal S2048x32000 .f32) : FVec Ideal S2048x32000 .f32 :=
  select (cmpf .ogt t (broadcastInDim S2048x32000 ![] bcast_S_S2048x32000 (constant S_ .f32 0x00000000#32)))
    (mulf t (subf (Host.log (select (cmpf .ogt t (broadcastInDim S2048x32000 ![] bcast_S_S2048x32000 (constant S_ .f32 0x00000000#32))) t
      (broadcastInDim S2048x32000 ![] bcast_S_S2048x32000 (id (constant S_ .f32 0x3F800000#32))))) x))
    (broadcastInDim S2048x32000 ![] bcast_S_S2048x32000 (id (constant S_ .f32 0x00000000#32)))

/-- The sum of it, row group by row group. -/
def sumAll (k : FVec Ideal S2048x32000 .f32) : FVec Ideal S_ .f32 :=
  Host.reduceAdd (Host.divf (Host.reduceAdd (shapeCast S8x8192000 k shapeCasts_S2048x32000_S8x8192000) (constant S_ .f32 0x00000000#32) reducesTo_S8x8192000_S8_d1 h_S_)
    (broadcastInDim S8 ![] bcast_S_S8 (constant S_ .f32 0x3F800000#32))) (constant S_ .f32 0x00000000#32) reducesTo_S8_S_d0 h_S_

/-- The reference's result, of these. -/
theorem res_eq (m : (ℓ : Loc nD τ sig) → Buf (Elt Ideal) ℓ) (c : Dev nD) :
    Value.res_out0 m c = sumAll (kl (shapeCast S2048x32000 (m ((c.tc : Thread nD τ).loc main_arg0)) shapeCasts_S8x256x32000_S2048x32000)
      (target (shapeCast S2048 (m ((c.tc : Thread nD τ).loc main_arg1)) shapeCasts_S8x256_S2048))) := by
  unfold Value.res_out0 Value.res_main_v42
  rfl

/-- One entry's loss over the reals. -/
def term (t y : ℝ) : ℝ := if 0 < t then t * (Real.log t - y) else 0

theorem kl_apply (x t : FVec Ideal S2048x32000 .f32) (i : S2048x32000.Idx) (τ y : ℝ) (hx : x i = ((y : ℝ) : EReal)) (ht : t i = ((τ : ℝ) : EReal)) :
    kl x t i = ((term τ y : ℝ) : EReal) := by
  show Scalar.select (Ideal.cmp .ogt (t i) (Ideal.ofBits .f32 0x00000000#32)) (t i * (Ideal.log (Scalar.select (Ideal.cmp .ogt (t i) (Ideal.ofBits .f32 0x00000000#32)) (t i) (Ideal.ofBits .f32 0x3F800000#32)) - x i)) (Ideal.ofBits .f32 0x00000000#32) = _
  have hz : Ideal.ofBits .f32 0x00000000#32 = ((0 : ℝ) : EReal) := by simp [Ideal.ofBits, Ideal.ieee]
  rw [hx, ht, hz]
  unfold term
  by_cases h : 0 < τ
  · have hc : Ideal.cmp .ogt ((τ : ℝ) : EReal) ((0 : ℝ) : EReal) = 1#1 := by
      simp [Ideal.cmp, h]
    have hl : Ideal.log ((τ : ℝ) : EReal) = ((Real.log τ : ℝ) : EReal) := if_neg (not_le.2 h)
    have hs : ∀ a b : EReal, Scalar.select 1#1 a b = a := fun a b => rfl
    rw [hc, if_pos h, hs, hs, hl, ← EReal.coe_sub, ← EReal.coe_mul]
  · have hc : Ideal.cmp .ogt ((τ : ℝ) : EReal) ((0 : ℝ) : EReal) = 0#1 := by
      have : ¬ ((0 : ℝ) : EReal) < ((τ : ℝ) : EReal) := by rwa [EReal.coe_lt_coe_iff]
      show BitVec.ofBool (decide _) = _
      rw [decide_eq_false this]; rfl
    have hs : ∀ a b : EReal, Scalar.select 0#1 a b = b := fun a b => rfl
    rw [hc, if_neg h, hs]

/-- A sum of reals is the sum of them as extended reals. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- The sum over the row groups and their entries is the sum over the rows and columns. -/
theorem sumAll_apply (k : FVec Ideal S2048x32000 .f32) (g : ℕ → ℕ → ℝ) (hk : ∀ (r : Fin 2048) (v : Fin 32000), k (ix2 r v) = ((g r.val v.val : ℝ) : EReal)) (j : S_.Idx) :
    sumAll k j = ((∑ r ∈ Finset.range 2048, ∑ v ∈ Finset.range 32000, g r v : ℝ) : EReal) := by
  have hg : ∀ a : ℕ, ∑ q : Fin 8192000, g (a * 256 + q.val / 32000) (q.val % 32000) = ∑ b ∈ Finset.range 256, ∑ v ∈ Finset.range 32000, g (a * 256 + b) v := fun a => by
    rw [Fin.sum_univ_eq_sum_range fun q => g (a * 256 + q / 32000) (q % 32000)]
    exact Finset.sum_range_mul_divmod 256 32000 fun b v => g (a * 256 + b) v
  unfold sumAll
  pointwise
  simp only [hk, ← coe_sum, hg]
  have h1 : ∀ r : ℝ, Ideal.div (r : EReal) 1 = (r : EReal) := fun r => by
    rw [← EReal.coe_one, Ideal.div_coe (by norm_num), ← EReal.coe_mul]; norm_num
  simp only [h1, ← coe_sum]
  refine congrArg Real.toEReal ?_
  rw [Fin.sum_univ_eq_sum_range fun a => ∑ b ∈ Finset.range 256, ∑ v ∈ Finset.range 32000, g (a * 256 + b) v]
  exact Finset.sum_range_range_mul_add 8 256 fun r => ∑ v ∈ Finset.range 32000, g r v

/-- The reference's result, of logits that are the reals `X` and labels that are the numbers `L`. -/
theorem result (x : S8x256x32000.Idx → EReal) (l : IVec S8x256 32) (X : ℕ → ℕ → ℝ) (L : ℕ → ℕ)
    (hx : ∀ (r : Fin 2048) (v : Fin 32000), shapeCast S2048x32000 x shapeCasts_S8x256x32000_S2048x32000 (ix2 r v) = ((X r.val v.val : ℝ) : EReal))
    (hl : ∀ n : Fin 2048, (shapeCast S2048 l shapeCasts_S8x256_S2048 (ix1 n)).toNat = L n.val) (hL : ∀ n : Fin 2048, L n.val < 32000) (j : S_.Idx) :
    sumAll (kl (shapeCast S2048x32000 x shapeCasts_S8x256x32000_S2048x32000) (target (shapeCast S2048 l shapeCasts_S8x256_S2048))) j
      = ((∑ r ∈ Finset.range 2048, ∑ v ∈ Finset.range 32000, term (tgt (L r) v) (X r v) : ℝ) : EReal) :=
  sumAll_apply _ (fun r v => term (tgt (L r) v) (X r v)) (fun r v => kl_apply _ _ _ _ _ (hx r v) (by
    rw [target_apply _ (fun n => by rw [hl]; exact hL n), hl])) j

end Cert.ReferenceIdeal.Sums

end
-- ==== Proof.RowIdentity.lean ====
/-
  THE ROW IDENTITY over the reals: a row's loss, entry by entry, is the entropy of its target, plus eps times the logit of
  column 0, minus (9/10 - eps) times the logit at the label, minus eps times the sum of the row.
-/
module

public import proofs.«01_k».proof.Proof.IdealRows
public import proofs.«01_k».proof.Proof.RefValue

@[expose] public section

noncomputable section

namespace Cert.RowIdentity

open Cert.ReferenceIdeal.Sums Cert.KernelIdeal.Sums

/-- The entropy is the sum of the target's terms. -/
theorem ent_eq : ent = 1 / 10 * Real.log (1 / 319980) + 9 / 10 * Real.log (9 / 10) := by
  have h : (129140163 / 106660000000000 : ℝ) = 1 / 319980 * (9 / 10) ^ 9 := by norm_num
  unfold ent
  rw [h, Real.log_mul (by norm_num) (by norm_num), Real.log_pow]
  push_cast
  ring

/-- One entry of a row whose label is `l`. -/
theorem term_eq (l v : ℕ) (y : ℝ) (hl : l ≠ 0) : term (tgt l v) y
    = 1 / 319980 * (Real.log (1 / 319980) - y)
      + (if v = l then 9 / 10 * (Real.log (9 / 10) - y) - 1 / 319980 * (Real.log (1 / 319980) - y) else 0)
      - (if v = 0 then 1 / 319980 * (Real.log (1 / 319980) - y) else 0) := by
  unfold term tgt
  rw [if_neg hl]
  by_cases h1 : v = l
  · have h0 : v ≠ 0 := fun h => hl (h1.symm.trans h)
    rw [if_pos h1, if_pos h1, if_neg h0, if_pos (by norm_num)]
    ring
  · rw [if_neg h1, if_neg h1]
    by_cases h0 : v = 0
    · rw [if_pos h0, if_pos h0, if_neg (lt_irrefl _)]
      ring
    · rw [if_neg h0, if_neg h0, if_pos (by norm_num)]
      ring

/-- A row's loss is what the two kernels add for it. -/
theorem row_eq (l : ℕ) (hl : l < 32000) (X : ℕ → ℝ) : ∑ v ∈ Finset.range 32000, term (tgt l v) (X v)
    = rowTerm l (X l) (X 0) + -1 / 319980 * (if l = 0 then 0 else ∑ v ∈ Finset.range 32000, X v) := by
  unfold rowTerm
  by_cases h : l = 0
  · rw [if_pos h, if_pos h, mul_zero, add_zero]
    refine Finset.sum_eq_zero fun v _ => ?_
    unfold term tgt
    rw [if_pos h, if_neg (lt_irrefl _)]
  · rw [if_neg h, if_neg h, Finset.sum_congr rfl fun v _ => term_eq l v (X v) h, Finset.sum_sub_distrib, Finset.sum_add_distrib,
      Finset.sum_ite_eq_of_mem' _ _ _ (Finset.mem_range.2 hl), Finset.sum_ite_eq_of_mem' _ _ _ (Finset.mem_range.2 (by norm_num)),
      ← Finset.mul_sum, Finset.sum_sub_distrib, Finset.sum_const, Finset.card_range, nsmul_eq_mul, ent_eq]
    push_cast
    ring

/-- The loss is the rows' contributions and the blocks' together. -/
theorem total_eq (X : ℕ → ℕ → ℝ) (L : ℕ → ℕ) (hL : ∀ n, n < 2048 → L n < 32000) :
    ∑ r ∈ Finset.range 2048, ∑ v ∈ Finset.range 32000, term (tgt (L r) v) (X r v)
      = ∑ n ∈ Finset.range 2048, rowTerm (L n) (X n (L n)) (X n 0) + ∑ t ∈ Finset.range 16, blockTerm X L t := by
  rw [Finset.sum_congr rfl fun r hr => row_eq (L r) (hL r (Finset.mem_range.1 hr)) (X r), Finset.sum_add_distrib]
  refine congrArg (_ + ·) ?_
  unfold blockTerm
  rw [← Finset.mul_sum, ← Finset.mul_sum]
  exact congrArg (fun a : ℝ => -1 / 319980 * a) (Finset.sum_range_range_mul_add 16 128 fun n => if L n = 0 then (0 : ℝ) else ∑ v ∈ Finset.range 32000, X n v).symm

end Cert.RowIdentity

end
-- ==== Proof.IdealValue.lean ====
/-
  THE KERNEL'S RESULT over the reals, of logits that are real numbers and labels below 32000.
-/
module

public import proofs.«01_k».proof.Proof.IdealRows
public import proofs.«01_k».proof.Proof.IdealFrame

@[expose] public section

noncomputable section

namespace Cert.KernelIdeal.Sums

open Cert.KernelIdeal Cert.KernelIdeal.Gen Cert.KernelIdeal.Tile
open Idealize.ShloMosaic Idealize.ShloMosaic.TcCoe

/-- The flat labels are the labels re-read. -/
theorem flatL_eq (m : (ℓ : Loc nD τ sig) → Buf (Elt Ideal) ℓ) (d : Dev nD) :
    flatL m d = shapeCast S2048 (m ((d : Thread nD τ).loc main_arg1) : S8x256.Idx → BitVec 32) shapeCasts_S8x256_S2048 := by
  unfold flatL Vc
  rw [StableHlo.reshape_result_ne (h := by decide), StableHlo.reshape_result]
  rfl

/-- The flat logits are the logits re-read. -/
theorem flatX_eq (m : (ℓ : Loc nD τ sig) → Buf (Elt Ideal) ℓ) (d : Dev nD) :
    flatX m d = shapeCast S65536000 (m ((d : Thread nD τ).loc main_arg0) : S8x256x32000.Idx → EReal) shapeCasts_S8x256x32000_S65536000 := by
  unfold flatX Vc
  rw [StableHlo.reshape_result, StableHlo.reshape_result_ne (h := by decide)]
  rfl

/-- The region's array of logits is the logits re-read as rows. -/
theorem Vr_v3 (m : (ℓ : Loc nD τ sig) → Buf (Elt Ideal) ℓ) (d : Dev nD) :
    Vr m d main_v3 = shapeCast S2048x32000 (m ((d : Thread nD τ).loc main_arg0) : S8x256x32000.Idx → EReal) shapeCasts_S8x256x32000_S2048x32000 := by
  unfold Vr Ve
  rw [StableHlo.reshape_result_ne (h := by decide), StableHlo.reshape_result]
  unfold Vd Vc
  rw [Function.update_of_ne (StableHlo.devRef_ne_of_ne (by decide)), StableHlo.reshape_result_ne (h := by decide), StableHlo.reshape_result_ne (h := by decide)]
  rfl

/-- The region's array of labels is the flat labels re-read in blocks. -/
theorem Vr_v4 (m : (ℓ : Loc nD τ sig) → Buf (Elt Ideal) ℓ) (d : Dev nD) :
    Vr m d main_v4 = shapeCast S16x1x128 (flatL m d : S2048.Idx → BitVec 32) shapeCasts_S2048_S16x1x128 := by
  unfold Vr Ve
  rw [StableHlo.reshape_result, StableHlo.reshape_result_ne (h := by decide)]
  rw [Vd_v0]
  rfl

/-- The region's array of sums is the SparseCore call's result. -/
theorem Vr_v2 (m : (ℓ : Loc nD τ sig) → Buf (Elt Ideal) ℓ) (d : Dev nD) :
    Vr m d main_v2 = outVal (F := Ideal) (flatX m d) (flatL m d) := by
  unfold Vr Ve
  rw [StableHlo.reshape_result_ne (h := by decide), StableHlo.reshape_result_ne (h := by decide)]
  exact Vd_v2 m d

/-- The flat logits at word `32000 n + v` are the logits at row `n`, column `v`. -/
theorem flat_word (x : S8x256x32000.Idx → EReal) (n v : ℕ) (hn : n < 2048) (hv : v < 32000) :
    shapeCast S65536000 x shapeCasts_S8x256x32000_S65536000 (wordIx (n * 32000 + v))
      = shapeCast S2048x32000 x shapeCasts_S8x256x32000_S2048x32000 (ix2 ⟨n, hn⟩ ⟨v, hv⟩) := by
  have e : wordIx (n * 32000 + v) = ix1 ⟨n * 32000 + v, by omega⟩ := by
    funext a
    match a with
    | ⟨0, _⟩ => exact Fin.ext (Nat.mod_eq_of_lt (by omega))
  rw [e]
  pointwise
  have e0 : (n * 32000 + v) / 8192000 = n / 256 := by omega
  have e1 : (n * 32000 + v) / 32000 % 256 = n % 256 := by omega
  have e2 : (n * 32000 + v) % 32000 = v := by omega
  simp only [e0, e1, e2]

/-- The labels in blocks at block `t`, lane `k` are the labels at row `128 t + k`. -/
theorem block_word (l : S2048.Idx → BitVec 32) (t : Fin 16) (k : Fin 128) (h : t.val * 128 + k.val < 2048) :
    shapeCast S16x1x128 l shapeCasts_S2048_S16x1x128 (ix3 t 0 k) = l (ix1 ⟨t.val * 128 + k.val, h⟩) := by
  pointwise

/-- The kernel's result, of logits that are the reals `X` and labels that are the numbers `L`. -/
theorem total_value (m : (ℓ : Loc nD τ sig) → Buf (Elt Ideal) ℓ) (d : Dev nD) (X : ℕ → ℕ → ℝ) (L : ℕ → ℕ)
    (hx : ∀ (r : Fin 2048) (v : Fin 32000), shapeCast S2048x32000 (m ((d : Thread nD τ).loc main_arg0) : S8x256x32000.Idx → EReal)
      shapeCasts_S8x256x32000_S2048x32000 (ix2 r v) = ((X r.val v.val : ℝ) : EReal))
    (hl : ∀ n : Fin 2048, (shapeCast S2048 (m ((d : Thread nD τ).loc main_arg1) : S8x256.Idx → BitVec 32) shapeCasts_S8x256_S2048 (ix1 n)).toNat = L n.val)
    (hL : ∀ n : ℕ, n < 2048 → L n < 32000) :
    total (Vr m) d = ((∑ n ∈ Finset.range 2048, rowTerm (L n) (X n (L n)) (X n 0) + ∑ t ∈ Finset.range 16, blockTerm X L t : ℝ) : EReal) := by
  rw [← flatL_eq] at hl
  unfold total
  refine accAt_eq (Vr m) d X L ?_ ?_ _ ?_ 15 _
  · intro r v
    rw [Vr_v3]
    exact hx r v
  · intro t k
    rw [Vr_v4, block_word _ t k (by have := t.isLt; have := k.isLt; omega)]
    exact hl ⟨t.val * 128 + k.val, _⟩
  · rw [Vr_v2]
    refine outVal_sum _ _ X L (fun n v hn hv => ?_) (fun n h => ?_) hL
    · rw [flatX_eq, flat_word _ n v hn hv]
      exact hx ⟨n, hn⟩ ⟨v, hv⟩
    · rw [← hl ⟨n, h⟩]
      refine congrArg (fun i => (flatL m d i).toNat) ?_
      funext a
      match a with
      | ⟨0, _⟩ => rfl

end Cert.KernelIdeal.Sums

end
-- ==== Proof.Algebraic.lean ====
/-
  THE TWO RESULTS ARE EQUAL over the reals, when every logit is a real number and every label is below 32000.
-/
module

public import proofs.«01_k».proof.Proof.RowIdentity
public import proofs.«01_k».proof.Proof.IdealValue
public import proofs.«01_k».proof.Proof.Claims

@[expose] public section

noncomputable section

namespace Cert.Proof

open Idealize.ShloMosaic Idealize.ShloMosaic.TcCoe Idealize.SL.Sem

/-- The logits as reals, by row and column. -/
def reals (x : Cert.KernelIdeal.S8x256x32000.Idx → EReal) (n v : ℕ) : ℝ :=
  (shapeCast Cert.KernelIdeal.S2048x32000 x Cert.KernelIdeal.Facts₀.shapeCasts_S8x256x32000_S2048x32000
    (ix2 ⟨n % 2048, Nat.mod_lt _ (by norm_num)⟩ ⟨v % 32000, Nat.mod_lt _ (by norm_num)⟩)).toReal

/-- The labels as numbers, by row. -/
def nums (l : Cert.KernelIdeal.S8x256.Idx → BitVec 32) (n : ℕ) : ℕ :=
  (shapeCast Cert.KernelIdeal.S2048 l Cert.KernelIdeal.Facts₀.shapeCasts_S8x256_S2048 (ix1 ⟨n % 2048, Nat.mod_lt _ (by norm_num)⟩)).toNat

/-- Real logits are the reals. -/
theorem reals_eq (x : Cert.KernelIdeal.S8x256x32000.Idx → EReal) (h : ∀ i, ∃ r : ℝ, x i = (r : EReal)) (r : Fin 2048) (v : Fin 32000) :
    shapeCast Cert.KernelIdeal.S2048x32000 x Cert.KernelIdeal.Facts₀.shapeCasts_S8x256x32000_S2048x32000 (ix2 r v) = ((reals x r.val v.val : ℝ) : EReal) := by
  have e : reals x r.val v.val = (shapeCast Cert.KernelIdeal.S2048x32000 x Cert.KernelIdeal.Facts₀.shapeCasts_S8x256x32000_S2048x32000 (ix2 r v)).toReal := by
    unfold reals
    simp only [Nat.mod_eq_of_lt r.isLt, Nat.mod_eq_of_lt v.isLt]
  have hs : ∃ y : ℝ, shapeCast Cert.KernelIdeal.S2048x32000 x Cert.KernelIdeal.Facts₀.shapeCasts_S8x256x32000_S2048x32000 (ix2 r v) = (y : EReal) := h _
  obtain ⟨y, hy⟩ := hs
  rw [e, hy, EReal.toReal_coe]

/-- The labels are the numbers. -/
theorem nums_eq (l : Cert.KernelIdeal.S8x256.Idx → BitVec 32) (n : Fin 2048) :
    (shapeCast Cert.KernelIdeal.S2048 l Cert.KernelIdeal.Facts₀.shapeCasts_S8x256_S2048 (ix1 n)).toNat = nums l n.val := by
  unfold nums
  simp only [Nat.mod_eq_of_lt n.isLt]

/-- `Cert.algebraic_KernelIdeal_ReferenceIdeal_pre_finite_in_vocab`: both results are the sum over the rows of the same real. -/
theorem algebraic : Cert.algebraic_KernelIdeal_ReferenceIdeal_pre_finite_in_vocab := fun m ρ m' ρ' hpre hagree => by
  refine ⟨fun c => fun _ => Cert.KernelIdeal.Tile.total (Cert.KernelIdeal.Tile.Vr m) c, ?_, ?_⟩
  · exact (θ_run Cert.KernelIdeal.defs _ _).mono (fun _ h c => ⟨(h.1 c).2.2, (h.1 c).1, (h.1 c).2.1⟩)
      (Cert.KernelIdeal.Tile.run_main m ρ (Cert.KernelIdeal.Tile.labels_ok m fun d i => Cert.Pre.labels_lt' _ _ (hpre d) i))
  · refine (θ_run Cert.ReferenceIdeal.defs _ _).mono (fun _ h c => ⟨(h c).1.trans ?_, (h c).2⟩) (Cert.ReferenceIdeal.Value.run (F := Ideal) m' ρ')
    have hX := reals_eq _ (Cert.Pre.logits_real _ _ (hpre c))
    have hL := nums_eq (m ((c.tc : Thread Cert.KernelIdeal.nD Cert.KernelIdeal.τ).loc Cert.KernelIdeal.main_arg1))
    have hlt : ∀ n : ℕ, nums (m ((c.tc : Thread Cert.KernelIdeal.nD Cert.KernelIdeal.τ).loc Cert.KernelIdeal.main_arg1)) n < 32000 :=
      fun n => Cert.Pre.labels_lt' _ _ (hpre c) _
    rw [show Cert.ReferenceIdeal.Value.res_main_v42 m' c = _ from Cert.ReferenceIdeal.Sums.res_eq m' c, (hagree c).1, (hagree c).2]
    funext j
    refine (Cert.ReferenceIdeal.Sums.result _ _ _ _ hX hL (fun n => hlt n.val) j).trans ?_
    rw [Cert.RowIdentity.total_eq _ _ (fun n _ => hlt n)]
    exact (Cert.KernelIdeal.Sums.total_value m c _ _ hX hL (fun n _ => hlt n)).symm

end Cert.Proof

end
-- ==== Proof.lean ====
/- The proof of the claim: the modules under Proof/ put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_vocab
public import proofs.«01_k».proof.Proof.Gen.Pre_finite_in_vocab
public import proofs.«01_k».proof.Proof.Claims
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claim. -/
theorem claim : Cert.Claim :=
  ⟨Cert.Kernel.Gen.facts, Cert.KernelIdeal.Gen.facts, Cert.ReferenceIdeal.Gen.facts, Cert.Pre_in_vocab.Gen.facts,
    Cert.Pre_finite_in_vocab.Gen.facts, Cert.Kernel.Tile.frame, Cert.KernelIdeal.Tile.frame, frame_finite, frame_ref, frame_ref_finite,
    preserves, algebraic⟩

end Cert.Proof

end
